-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqReferenceIdeal (m : (ℓ : Loc Cert.XqReferenceIdeal.nD Cert.XqReferenceIdeal.τ Cert.XqReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0))
      ∧ r.2.sem = fun _ => 0)

def quiescent_XqReferenceIdeal [hXqReferenceIdeal : Cert.XqReferenceIdeal.Facts] : Prop :=
  ∀ (m : (ℓ : Loc Cert.XqReferenceIdeal.nD Cert.XqReferenceIdeal.τ Cert.XqReferenceIdeal.sig) → Buf (Elt Ideal) ℓ) (g : Dev Cert.XqReferenceIdeal.nD → PrngReg), Pre_XqReferenceIdeal m →
    θ_run (Cert.XqReferenceIdeal.defs (F := Ideal)) (onTc (τ := Cert.XqReferenceIdeal.τ) (Cert.XqReferenceIdeal.main (F := Ideal))) ⟨m, fun _ => 0, g⟩ (fun r => (∀ c : Dev Cert.XqReferenceIdeal.nD,
      r.2.mem ((c.tc : Thread Cert.XqReferenceIdeal.nD Cert.XqReferenceIdeal.τ).loc Cert.XqReferenceIdeal.main_arg0) = m ((c.tc : Thread Cert.XqReferenceIdeal.nD Cert.XqReferenceIdeal.τ).loc Cert.XqReferenceIdeal.main_arg0))
      ∧ r.2.sem = fun _ => 0)

def preserves_Kernel_KernelIdeal : Prop :=
  IdealRules.bf16_pair.Statement Cert.KernelIdeal.S128x256 Cert.KernelIdeal.S64x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Xq_XqIdeal : Prop :=
  True

def algebraic_XqIdeal_XqReferenceIdeal [hXqIdeal : Cert.XqIdeal.Facts] [hXqReferenceIdeal : Cert.XqReferenceIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqReferenceIdeal.nD Cert.XqReferenceIdeal.τ Cert.XqReferenceIdeal.sig) → Buf (Elt Ideal) ℓ) (g' : Dev Cert.XqReferenceIdeal.nD → PrngReg), Pre_XqIdeal m →
    (∀ c : Dev Cert.XqIdeal.nD,
      m' ((c.tc : Thread Cert.XqReferenceIdeal.nD Cert.XqReferenceIdeal.τ).loc Cert.XqReferenceIdeal.main_arg0) = m ((c.tc : Thread Cert.XqIdeal.nD Cert.XqIdeal.τ).loc Cert.XqIdeal.main_arg0)) →
    ∃ (v0 : (c : Dev Cert.XqIdeal.nD) → Buf (Elt Ideal) ((c.tc : Thread Cert.XqIdeal.nD Cert.XqIdeal.τ).loc Cert.XqIdeal.main_v0_0)) (v1 : (c : Dev Cert.XqIdeal.nD) → Buf (Elt Ideal) ((c.tc : Thread Cert.XqIdeal.nD Cert.XqIdeal.τ).loc Cert.XqIdeal.main_v0_1)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0_0) = v0 c
          ∧ r.2.mem ((c.tc : Thread Cert.XqIdeal.nD Cert.XqIdeal.τ).loc Cert.XqIdeal.main_v0_1) = v1 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0))
      ∧ θ_run (Cert.XqReferenceIdeal.defs (F := Ideal)) (onTc (τ := Cert.XqReferenceIdeal.τ) (Cert.XqReferenceIdeal.main (F := Ideal))) ⟨m', fun _ => 0, g'⟩ (fun r => ∀ c : Dev Cert.XqReferenceIdeal.nD,
          r.2.mem ((c.tc : Thread Cert.XqReferenceIdeal.nD Cert.XqReferenceIdeal.τ).loc Cert.XqReferenceIdeal.main_v0_0) = v0 c
          ∧ r.2.mem ((c.tc : Thread Cert.XqReferenceIdeal.nD Cert.XqReferenceIdeal.τ).loc Cert.XqReferenceIdeal.main_v0_1) = v1 c
          ∧ r.2.mem ((c.tc : Thread Cert.XqReferenceIdeal.nD Cert.XqReferenceIdeal.τ).loc Cert.XqReferenceIdeal.main_arg0) = m' ((c.tc : Thread Cert.XqReferenceIdeal.nD Cert.XqReferenceIdeal.τ).loc Cert.XqReferenceIdeal.main_arg0))

def Claim : Prop :=
  ∃ (hKernel : Cert.Kernel.Facts) (hKernelIdeal : Cert.KernelIdeal.Facts) (hReferenceIdeal : Cert.ReferenceIdeal.Facts) (hXq : Cert.Xq.Facts) (hXqIdeal : Cert.XqIdeal.Facts) (hXqReferenceIdeal : Cert.XqReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Xq (hXq := hXq)
    ∧ quiescent_XqIdeal (hXqIdeal := hXqIdeal)
    ∧ quiescent_XqReferenceIdeal (hXqReferenceIdeal := hXqReferenceIdeal)
    ∧ preserves_Kernel_KernelIdeal
    ∧ algebraic_KernelIdeal_ReferenceIdeal (hKernelIdeal := hKernelIdeal) (hReferenceIdeal := hReferenceIdeal)
    ∧ preserves_Xq_XqIdeal
    ∧ algebraic_XqIdeal_XqReferenceIdeal (hXqIdeal := hXqIdeal) (hXqReferenceIdeal := hXqReferenceIdeal)
-- ==== Kernel.lean ====
abbrev S1920x6144 : Shape := ⟨2, ![1920, 6144]⟩
abbrev S1920x128 : Shape := ⟨2, ![1920, 128]⟩
abbrev S10752x6144 : Shape := ⟨2, ![10752, 6144]⟩
abbrev S1920x10752 : Shape := ⟨2, ![1920, 10752]⟩
abbrev S10752x192 : Shape := ⟨2, ![10752, 192]⟩
abbrev S256x6144 : Shape := ⟨2, ![256, 6144]⟩
abbrev S1920x256 : Shape := ⟨2, ![1920, 256]⟩
abbrev S256x192 : Shape := ⟨2, ![256, 192]⟩
abbrev S6144x256 : Shape := ⟨2, ![6144, 256]⟩
abbrev S256x256 : Shape := ⟨2, ![256, 256]⟩
abbrev S8x2x16x256 : Shape := ⟨4, ![8, 2, 16, 256]⟩
abbrev S8x1x16x256 : Shape := ⟨4, ![8, 1, 16, 256]⟩
abbrev S8x16x256 : Shape := ⟨3, ![8, 16, 256]⟩
abbrev S128x256 : Shape := ⟨2, ![128, 256]⟩
abbrev S64x256 : Shape := ⟨2, ![64, 256]⟩
abbrev S8x8x256 : Shape := ⟨3, ![8, 8, 256]⟩
abbrev S8x256 : Shape := ⟨2, ![8, 256]⟩
abbrev S8x1x256 : Shape := ⟨3, ![8, 1, 256]⟩
abbrev S8x32x256 : Shape := ⟨3, ![8, 32, 256]⟩
abbrev S1920x1 : Shape := ⟨2, ![1920, 1]⟩

abbrev nBuf : Space → Nat
  | .hbm => 6
  | .vmem => 13
  | .smem => 0
  | _ => 0

abbrev bufTy : (tb : Table) → Fin (tcTables nBuf tb) → BufTy
  | .hbm, ⟨0, _⟩ => ⟨S1920x6144, .fp8e4m3⟩
  | .hbm, ⟨1, _⟩ => ⟨S1920x128, .f32⟩
  | .hbm, ⟨2, _⟩ => ⟨S10752x6144, .bf16⟩
  | .hbm, ⟨3, _⟩ => ⟨S1920x10752, .bf16⟩
  | .hbm, ⟨4, _⟩ => ⟨S10752x6144, .fp8e4m3⟩
  | .hbm, ⟨5, _⟩ => ⟨S10752x192, .i8⟩
  | .local _ .vmem, ⟨0, _⟩ => ⟨S1920x6144, .fp8e4m3⟩
  | .local _ .vmem, ⟨1, _⟩ => ⟨S1920x128, .f32⟩
  | .local _ .vmem, ⟨2, _⟩ => ⟨S256x6144, .bf16⟩
  | .local _ .vmem, ⟨3, _⟩ => ⟨S256x6144, .bf16⟩
  | .local _ .vmem, ⟨4, _⟩ => ⟨S1920x256, .bf16⟩
  | .local _ .vmem, ⟨5, _⟩ => ⟨S1920x256, .bf16⟩
  | .local _ .vmem, ⟨6, _⟩ => ⟨S256x6144, .fp8e4m3⟩
  | .local _ .vmem, ⟨7, _⟩ => ⟨S256x6144, .fp8e4m3⟩
  | .local _ .vmem, ⟨8, _⟩ => ⟨S256x192, .i8⟩
  | .local _ .vmem, ⟨9, _⟩ => ⟨S256x192, .i8⟩
  | .local _ .vmem, ⟨10, _⟩ => ⟨S1920x6144, .bf16⟩
  | .local _ .vmem, ⟨11, _⟩ => ⟨S6144x256, .bf16⟩
  | .local _ .vmem, ⟨12, _⟩ => ⟨S256x256, .i32⟩
  | _, _ => ⟨S1920x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1920x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S1920x6144 : Shape := ⟨2, ![1920, 6144]⟩
abbrev S1920x128 : Shape := ⟨2, ![1920, 128]⟩
abbrev S10752x6144 : Shape := ⟨2, ![10752, 6144]⟩
abbrev S1920x10752 : Shape := ⟨2, ![1920, 10752]⟩
abbrev S10752x192 : Shape := ⟨2, ![10752, 192]⟩
abbrev S10752x192x32 : Shape := ⟨3, ![10752, 192, 32]⟩
abbrev S10752x192x1 : Shape := ⟨3, ![10752, 192, 1]⟩
abbrev S1920x1 : Shape := ⟨2, ![1920, 1]⟩

abbrev nBuf : Space → Nat
  | .hbm => 6
  | .vmem => 6
  | .smem => 0
  | _ => 0

abbrev bufTy : (tb : Table) → Fin (tcTables nBuf tb) → BufTy
  | .hbm, ⟨0, _⟩ => ⟨S1920x6144, .fp8e4m3⟩
  | .hbm, ⟨1, _⟩ => ⟨S1920x128, .f32⟩
  | .hbm, ⟨2, _⟩ => ⟨S10752x6144, .bf16⟩
  | .hbm, ⟨3, _⟩ => ⟨S1920x10752, .bf16⟩
  | .hbm, ⟨4, _⟩ => ⟨S10752x6144, .fp8e4m3⟩
  | .hbm, ⟨5, _⟩ => ⟨S10752x192, .i8⟩
  | .local _ .vmem, ⟨0, _⟩ => ⟨S1920x6144, .fp8e4m3⟩
  | .local _ .vmem, ⟨1, _⟩ => ⟨S1920x128, .f32⟩
  | .local _ .vmem, ⟨2, _⟩ => ⟨S10752x6144, .bf16⟩
  | .local _ .vmem, ⟨3, _⟩ => ⟨S1920x10752, .bf16⟩
  | .local _ .vmem, ⟨4, _⟩ => ⟨S10752x6144, .fp8e4m3⟩
  | .local _ .vmem, ⟨5, _⟩ => ⟨S10752x192, .i8⟩
  | _, _ => ⟨S1920x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10752x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x10752 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10752x192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Xq.lean ====
abbrev S1920x6144 : Shape := ⟨2, ![1920, 6144]⟩
abbrev S1920x128 : Shape := ⟨2, ![1920, 128]⟩
abbrev S128x6144 : Shape := ⟨2, ![128, 6144]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S1920x6144, .bf16⟩
  | .hbm, ⟨1, _⟩ => ⟨S1920x6144, .fp8e4m3⟩
  | .hbm, ⟨2, _⟩ => ⟨S1920x128, .f32⟩
  | .local _ .vmem, ⟨0, _⟩ => ⟨S128x6144, .bf16⟩
  | .local _ .vmem, ⟨1, _⟩ => ⟨S128x6144, .bf16⟩
  | .local _ .vmem, ⟨2, _⟩ => ⟨S128x6144, .fp8e4m3⟩
  | .local _ .vmem, ⟨3, _⟩ => ⟨S128x6144, .fp8e4m3⟩
  | .local _ .vmem, ⟨4, _⟩ => ⟨S128x128, .f32⟩
  | .local _ .vmem, ⟨5, _⟩ => ⟨S128x128, .f32⟩
  | _, _ => ⟨S1920x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XqReferenceIdeal.lean ====
abbrev S1920x6144 : Shape := ⟨2, ![1920, 6144]⟩
abbrev S1920x128 : Shape := ⟨2, ![1920, 128]⟩
abbrev S1920 : Shape := ⟨1, ![1920]⟩
abbrev S1920x1 : Shape := ⟨2, ![1920, 1]⟩

abbrev nBuf : Space → Nat
  | .hbm => 3
  | .vmem => 3
  | .smem => 0
  | _ => 0

abbrev bufTy : (tb : Table) → Fin (tcTables nBuf tb) → BufTy
  | .hbm, ⟨0, _⟩ => ⟨S1920x6144, .bf16⟩
  | .hbm, ⟨1, _⟩ => ⟨S1920x6144, .fp8e4m3⟩
  | .hbm, ⟨2, _⟩ => ⟨S1920x128, .f32⟩
  | .local _ .vmem, ⟨0, _⟩ => ⟨S1920x6144, .bf16⟩
  | .local _ .vmem, ⟨1, _⟩ => ⟨S1920x6144, .fp8e4m3⟩
  | .local _ .vmem, ⟨2, _⟩ => ⟨S1920x128, .f32⟩
  | _, _ => ⟨S1920x6144, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1920x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KFrame.Runs.lean ====
/- The blocks, staging buffers and branch condition of the matrix-product kernel as compiled, and its frame from a frame run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The first argument is unchanged. -/
theorem V_main_arg0 (c : Dev nD) : V m c main_arg0 = m ((c : Thread nD τ).loc main_arg0) := rfl
/-- The second argument is unchanged. -/
theorem V_main_arg1 (c : Dev nD) : V m c main_arg1 = m ((c : Thread nD τ).loc main_arg1) := rfl
/-- The third argument is unchanged. -/
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 42 = 0 :=
  (fun t => by
    have ht : t.val < 42 := Nat.lt_of_lt_of_eq t.isLt N_0
    have e0 : (grid0.coords t 0).val = t.val / 1 % 42 := Pipeline.Grid.coords_val t 0 (by decide) rfl
    simp only [cond0_0, e0]
    word_cmp
   : ∀ t : Fin grid0.N, cond0_0 (grid0.coords t) ↔ t.val % 42 = 0)

/-! ## The kernel body on any staging memrefs: a subtype the run finds -/

/-- Each window's current staging memref at point `t`, spelled as the pipeline passes it (`bodyAt0`), and its wholeness. -/
abbrev ms0_0 (t : Fin cfg0.N) : Memref sig .tc .vmem S1920x6144 .fp8e4m3 := win0_0.stage (cfg0.slots t 0)
/-- Window 0's buffer at grid point `t` is a whole memory. -/
abbrev hs0_0 (t : Fin cfg0.N) : (ms0_0 t).IsWhole := hstage0_0 ((cfg0.slots t 0).cast nbuf0_0)
/-- The buffer that holds window 1 (the x scales) at grid point `t`. -/
abbrev ms0_1 (t : Fin cfg0.N) : Memref sig .tc .vmem S1920x128 .f32 := win0_1.stage (cfg0.slots t 1)
/-- Window 1's buffer at grid point `t` is a whole memory. -/
abbrev hs0_1 (t : Fin cfg0.N) : (ms0_1 t).IsWhole := hstage0_1 ((cfg0.slots t 1).cast nbuf0_1)
/-- The buffer that holds window 2 (the w) at grid point `t`. -/
abbrev ms0_2 (t : Fin cfg0.N) : Memref sig .tc .vmem S256x6144 .bf16 := win0_2.stage (cfg0.slots t 2)
/-- Window 2's buffer at grid point `t` is a whole memory. -/
abbrev hs0_2 (t : Fin cfg0.N) : (ms0_2 t).IsWhole := hstage0_2 ((cfg0.slots t 2).cast nbuf0_2)
/-- The buffer that holds window 3 (the product) at grid point `t`. -/
abbrev ms0_3 (t : Fin cfg0.N) : Memref sig .tc .vmem S1920x256 .bf16 := win0_3.stage (cfg0.slots t 3)
/-- Window 3's buffer at grid point `t` is a whole memory. -/
abbrev hs0_3 (t : Fin cfg0.N) : (ms0_3 t).IsWhole := hstage0_3 ((cfg0.slots t 3).cast nbuf0_3)
/-- The buffer that holds window 4 (the codes of w) at grid point `t`. -/
abbrev ms0_4 (t : Fin cfg0.N) : Memref sig .tc .vmem S256x6144 .fp8e4m3 := win0_4.stage (cfg0.slots t 4)
/-- Window 4's buffer at grid point `t` is a whole memory. -/
abbrev hs0_4 (t : Fin cfg0.N) : (ms0_4 t).IsWhole := hstage0_4 ((cfg0.slots t 4).cast nbuf0_4)
/-- The buffer that holds window 5 (the scales of w) at grid point `t`. -/
abbrev ms0_5 (t : Fin cfg0.N) : Memref sig .tc .vmem S256x192 .i8 := win0_5.stage (cfg0.slots t 5)
/-- Window 5's buffer at grid point `t` is a whole memory. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1920x6144 .bf16 := Memref.whole cc0_scratch0
/-- The scratch memory with the dequantised tile of w. -/
abbrev scM0_1 : Memref sig .tc .vmem S6144x256 .bf16 := Memref.whole cc0_scratch1
/-- The scratch memory with the scale bytes of the tile. -/
abbrev scM0_2 : Memref sig .tc .vmem S256x256 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KFrame.RunA.lean ====
/- The compiled body at the first grid point: it runs and hands every buffer back. -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1952000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem bodyRun_A (c : Dev nD) (i : grid0.Coords) (arg1 : Memref sig .tc .vmem S1920x6144 .fp8e4m3) (harg1 : arg1.IsWhole) (arg2 : Memref sig .tc .vmem S1920x128 .f32) (harg2 : arg2.IsWhole) (arg3 : Memref sig .tc .vmem S256x6144 .bf16) (harg3 : arg3.IsWhole) (arg4 : Memref sig .tc .vmem S1920x256 .bf16) (harg4 : arg4.IsWhole) (arg5 : Memref sig .tc .vmem S256x6144 .fp8e4m3) (harg5 : arg5.IsWhole) (arg6 : Memref sig .tc .vmem S256x192 .i8) (harg6 : arg6.IsWhole) (arg7 : Memref sig .tc .vmem S1920x6144 .bf16) (harg7 : arg7.IsWhole) (arg8 : Memref sig .tc .vmem S6144x256 .bf16) (harg8 : arg8.IsWhole) (arg9 : Memref sig .tc .vmem S256x256 .i32) (harg9 : arg9.IsWhole) (hc0 : cond0_0 i)
    (x0 : Vec F S1920x6144 .fp8e4m3) (x1 : Vec F S1920x128 .f32) (x2 : Vec F S256x6144 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mm i arg1 harg1 arg2 harg2 arg3 harg3 arg4 harg4 arg5 harg5 arg6 harg6 arg7 harg7 arg8 harg8 arg9 harg9) K := by
    intro E K
    simp only [cc0_mm_eq_skeleton]; unfold cc0_mm_skel
    simp only [k0_part67_eq_skeleton, k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KFrame.RunB.lean ====
/- The compiled body after the first grid point: it runs and hands every buffer back. -/
module

public import proofs.«01_k».proof.Proof.KFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1536000 in
/-- The body's triple IN CASE B (`scf.if` 0 not taken: points 1, 2, … 41: 41 of 42): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem bodyRun_B (c : Dev nD) (i : grid0.Coords) (arg1 : Memref sig .tc .vmem S1920x6144 .fp8e4m3) (harg1 : arg1.IsWhole) (arg2 : Memref sig .tc .vmem S1920x128 .f32) (harg2 : arg2.IsWhole) (arg3 : Memref sig .tc .vmem S256x6144 .bf16) (harg3 : arg3.IsWhole) (arg4 : Memref sig .tc .vmem S1920x256 .bf16) (harg4 : arg4.IsWhole) (arg5 : Memref sig .tc .vmem S256x6144 .fp8e4m3) (harg5 : arg5.IsWhole) (arg6 : Memref sig .tc .vmem S256x192 .i8) (harg6 : arg6.IsWhole) (arg7 : Memref sig .tc .vmem S1920x6144 .bf16) (harg7 : arg7.IsWhole) (arg8 : Memref sig .tc .vmem S6144x256 .bf16) (harg8 : arg8.IsWhole) (arg9 : Memref sig .tc .vmem S256x256 .i32) (harg9 : arg9.IsWhole) (hc0 : ¬cond0_0 i)
    (x0 : Vec F S1920x6144 .fp8e4m3) (x1 : Vec F S1920x128 .f32) (x2 : Vec F S256x6144 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mm i arg1 harg1 arg2 harg2 arg3 harg3 arg4 harg4 arg5 harg5 arg6 harg6 arg7 harg7 arg8 harg8 arg9 harg9) K := by
    intro E K
    simp only [cc0_mm_eq_skeleton]; unfold cc0_mm_skel
    simp only [k0_part67_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KFrame.Frame.lean ====
/- The frame of the matrix-product kernel as compiled: its arguments end unchanged and every semaphore at zero. -/
module

public import proofs.«01_k».proof.Proof.KFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 (the x scales) holds after grid point `t`. -/
theorem after0_1 (c : Dev nD) (t : Fin cfg0.N) : (dats m 0 c).after 1 t = iblk m c 1 t := by dsimp only [dats]
/-- What window 2 (the w) holds after grid point `t`. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 (the x scales) holds before grid point `t`. -/
theorem before0_1 (c : Dev nD) (t : Fin cfg0.N) (d) : (dats m 0 c).before 1 t d = iblk m c 1 t :=
  before0_1_of m (dats m 0 c) (A_eq m c 1) (after0_1 m c) t d
/-- What window 2 (the w) holds before grid point `t`. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 42 := lt_of_lt_of_eq t.isLt (show cfg0.N = 42 from N_0)
  by_cases h0 : t.val % 42 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((bodyRun_A c (grid0.coords t) _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((bodyRun_B c (grid0.coords t) _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Mm.Kit.lean ====
/- The staging buffers, scratch buffers and branch condition of the matrix-product kernel, named. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 42 = 0 :=
  (fun t => by
    have ht : t.val < 42 := Nat.lt_of_lt_of_eq t.isLt N_0
    have e0 : (grid0.coords t 0).val = t.val / 1 % 42 := Pipeline.Grid.coords_val t 0 (by decide) rfl
    simp only [cond0_0, e0]
    word_cmp
   : ∀ t : Fin grid0.N, cond0_0 (grid0.coords t) ↔ t.val % 42 = 0)

/-! ## The kernel body on any staging memrefs: a subtype the run finds -/

/-- Each window's current staging memref at point `t`, spelled as the pipeline passes it (`bodyAt0`), and its wholeness. -/
abbrev ms0_0 (t : Fin cfg0.N) : Memref sig .tc .vmem S1920x6144 .fp8e4m3 := win0_0.stage (cfg0.slots t 0)
/-- Window 0's buffer at grid point `t` is a whole memory. -/
abbrev hs0_0 (t : Fin cfg0.N) : (ms0_0 t).IsWhole := hstage0_0 ((cfg0.slots t 0).cast nbuf0_0)
/-- The buffer that holds window 1 (the x scales) at grid point `t`. -/
abbrev ms0_1 (t : Fin cfg0.N) : Memref sig .tc .vmem S1920x128 .f32 := win0_1.stage (cfg0.slots t 1)
/-- Window 1's buffer at grid point `t` is a whole memory. -/
abbrev hs0_1 (t : Fin cfg0.N) : (ms0_1 t).IsWhole := hstage0_1 ((cfg0.slots t 1).cast nbuf0_1)
/-- The buffer that holds window 2 (the w) at grid point `t`. -/
abbrev ms0_2 (t : Fin cfg0.N) : Memref sig .tc .vmem S256x6144 .bf16 := win0_2.stage (cfg0.slots t 2)
/-- Window 2's buffer at grid point `t` is a whole memory. -/
abbrev hs0_2 (t : Fin cfg0.N) : (ms0_2 t).IsWhole := hstage0_2 ((cfg0.slots t 2).cast nbuf0_2)
/-- The buffer that holds window 3 (the product) at grid point `t`. -/
abbrev ms0_3 (t : Fin cfg0.N) : Memref sig .tc .vmem S1920x256 .bf16 := win0_3.stage (cfg0.slots t 3)
/-- Window 3's buffer at grid point `t` is a whole memory. -/
abbrev hs0_3 (t : Fin cfg0.N) : (ms0_3 t).IsWhole := hstage0_3 ((cfg0.slots t 3).cast nbuf0_3)
/-- The buffer that holds window 4 (the codes of w) at grid point `t`. -/
abbrev ms0_4 (t : Fin cfg0.N) : Memref sig .tc .vmem S256x6144 .fp8e4m3 := win0_4.stage (cfg0.slots t 4)
/-- Window 4's buffer at grid point `t` is a whole memory. -/
abbrev hs0_4 (t : Fin cfg0.N) : (ms0_4 t).IsWhole := hstage0_4 ((cfg0.slots t 4).cast nbuf0_4)
/-- The buffer that holds window 5 (the scales of w) at grid point `t`. -/
abbrev ms0_5 (t : Fin cfg0.N) : Memref sig .tc .vmem S256x192 .i8 := win0_5.stage (cfg0.slots t 5)
/-- Window 5's buffer at grid point `t` is a whole memory. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1920x6144 .bf16 := Memref.whole cc0_scratch0
/-- The scratch memory with the dequantised tile of w. -/
abbrev scM0_1 : Memref sig .tc .vmem S6144x256 .bf16 := Memref.whole cc0_scratch1
/-- The scratch memory with the scale bytes of the tile. -/
abbrev scM0_2 : Memref sig .tc .vmem S256x256 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Mm.Tile.lean ====
/- What one grid point of the matrix-product kernel computes from its 256 rows of w: the quantised codes, the
   dequantised rows and the scale exponents, tile by tile of 256 columns. -/
module

public import proofs.«01_k».proof.Proof.Mm.Kit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.SL.Sem

variable {F : FTy → Type} [FloatOps F]

/-- A row number of a two-axis array is below its extent, -/
theorem idx_lt0 {n0 n1 : Nat} (x : (⟨2, ![n0, n1]⟩ : Shape).Idx) : (x 0).val < n0 := (x 0).isLt
/-- and so is a column number. -/
theorem idx_lt1 {n0 n1 : Nat} (x : (⟨2, ![n0, n1]⟩ : Shape).Idx) : (x 1).val < n1 := (x 1).isLt

/-! ## One tile -/

/-- The largest magnitude of each group of 32 rows of the transposed tile. -/
def tileMax (v : Vec F S256x256 .bf16) : FVec F S8x256 .f32 := k0_pay31 v
/-- The exponent field (in place) chosen for each group. -/
def tileField (v : Vec F S256x256 .bf16) : IVec S8x256 32 := k0_pay34 (k0_pay31 v) (k0_pay32 v) (k0_pay33 v)
/-- The biased scale exponent stored for each group. -/
def tileE8 (v : Vec F S256x256 .bf16) : IVec S8x256 32 := k0_pay42 (k0_pay36 (k0_pay31 v) (k0_pay32 v) (k0_pay33 v))
/-- The dequantised, transposed tile. -/
def tileDeq (v : Vec F S256x256 .bf16) : FVec F S256x256 .bf16 :=
  k0_pay40 (k0_pay30 v) (k0_pay37 (k0_pay31 v) (k0_pay32 v) (k0_pay33 v)) (k0_pay38 (k0_pay31 v) (k0_pay32 v) (k0_pay33 v))
/-- The codes of the tile. -/
def tileCodes (v : Vec F S256x256 .bf16) : FVec F S256x256 .fp8e4m3 :=
  k0_pay41 (k0_pay30 v) (k0_pay38 (k0_pay31 v) (k0_pay32 v) (k0_pay33 v))

/-! ## The block, tile by tile -/

/-- The `k`-th band of 256 columns of a block of 256 rows. -/
abbrev colRect (k : Fin 24) : Rect S256x6144 :=
  Rect.unit (s := S256x6144) ![0, 256 * k.val] S256x256.size fun a => by
    have := k.isLt; match a with
    | ⟨0, _⟩ => show 0 + 256 ≤ 256; omega
    | ⟨1, _⟩ => show 256 * k.val + 256 ≤ 6144; omega
/-- The `k`-th tile of a block. -/
def tileAt (X : Vec F S256x6144 .bf16) (k : Fin 24) : Vec F S256x256 .bf16 := View.ld X (colRect k)

/-- The codes of a block of 256 rows of w. -/
def codesBlk (X : Vec F S256x6144 .bf16) : Vec F S256x6144 .fp8e4m3 := fun y =>
  tileCodes (tileAt X ⟨(y 1).val / 256, by have := idx_lt1 y; omega⟩)
    (ix2 ⟨(y 0).val, idx_lt0 y⟩ ⟨(y 1).val % 256, by omega⟩)
/-- The dequantised block, transposed. -/
def deqBlk (X : Vec F S256x6144 .bf16) : Vec F S6144x256 .bf16 := fun y =>
  tileDeq (tileAt X ⟨(y 0).val / 256, by have := idx_lt0 y; omega⟩)
    (ix2 ⟨(y 0).val % 256, by omega⟩ ⟨(y 1).val, idx_lt1 y⟩)
/-- The stored exponents of a block, one row of 256 for every group of 32 columns; zero below row 192. -/
def expBlk (X : Vec F S256x6144 .bf16) : Vec F S256x256 .i32 := fun y =>
  if h : (y 0).val < 192 then
    tileE8 (tileAt X ⟨(y 0).val / 8, by omega⟩) (ix2 ⟨(y 0).val % 8, by omega⟩ ⟨(y 1).val, idx_lt1 y⟩)
  else 0#32

/-- The `k`-th band of 256 rows of the dequantised block. -/
abbrev rowRect (k : Fin 24) : Rect S6144x256 :=
  Rect.unit (s := S6144x256) ![256 * k.val, 0] S256x256.size fun a => by
    have := k.isLt; match a with
    | ⟨0, _⟩ => show 256 * k.val + 256 ≤ 6144; omega
    | ⟨1, _⟩ => show 0 + 256 ≤ 256; omega
/-- The `k`-th band of 8 rows of the exponents. -/
abbrev expRect (k : Fin 24) : Rect S256x256 :=
  Rect.unit (s := S256x256) ![8 * k.val, 0] S8x256.size fun a => by
    have := k.isLt; match a with
    | ⟨0, _⟩ => show 8 * k.val + 8 ≤ 256; omega
    | ⟨1, _⟩ => show 0 + 256 ≤ 256; omega

/-- The codes of tile `k` are the block's codes at that tile. -/
theorem codes_at (X : Vec F S256x6144 .bf16) (k : Fin 24) (x : S256x256.Idx) :
    tileCodes (View.ld X (colRect k)) x = codesBlk X ((colRect k).emb x) := by
  have h0 : (((colRect k).emb x) 0).val = (x 0).val := by
    show 0 + 1 * (x 0).val = _; omega
  have h1 : (((colRect k).emb x) 1).val = 256 * k.val + (x 1).val := by
    show 256 * k.val + 1 * (x 1).val = _; omega
  have hx0 := idx_lt0 x
  have hx1 := idx_lt1 x
  unfold codesBlk tileAt
  congr 1
  · congr 3; apply Fin.ext; show k.val = _ / 256; rw [h1]; omega
  · funext a; match a with
    | ⟨0, _⟩ => apply Fin.ext; show (x 0).val = _; exact h0.symm
    | ⟨1, _⟩ => apply Fin.ext; show (x 1).val = _ % 256; rw [h1]; omega

/-- The dequantised tile `k` is the dequantised block at that tile. -/
theorem deq_at (X : Vec F S256x6144 .bf16) (k : Fin 24) (x : S256x256.Idx) :
    tileDeq (View.ld X (colRect k)) x = deqBlk X ((rowRect k).emb x) := by
  have h0 : (((rowRect k).emb x) 0).val = 256 * k.val + (x 0).val := by
    show 256 * k.val + 1 * (x 0).val = _; omega
  have h1 : (((rowRect k).emb x) 1).val = (x 1).val := by
    show 0 + 1 * (x 1).val = _; omega
  have hx0 := idx_lt0 x
  have hx1 := idx_lt1 x
  unfold deqBlk tileAt
  congr 1
  · congr 3; apply Fin.ext; show k.val = _ / 256; rw [h0]; omega
  · funext a; match a with
    | ⟨0, _⟩ => apply Fin.ext; show (x 0).val = _ % 256; rw [h0]; omega
    | ⟨1, _⟩ => apply Fin.ext; show (x 1).val = _; exact h1.symm

/-- The exponents of tile `k` are the block's exponents at that tile's rows. -/
theorem exp_at (X : Vec F S256x6144 .bf16) (k : Fin 24) (x : S8x256.Idx) :
    tileE8 (View.ld X (colRect k)) x = expBlk X ((expRect k).emb x) := by
  have h0 : (((expRect k).emb x) 0).val = 8 * k.val + (x 0).val := by
    show 8 * k.val + 1 * (x 0).val = _; omega
  have h1 : (((expRect k).emb x) 1).val = (x 1).val := by
    show 0 + 1 * (x 1).val = _; omega
  have hx0 := idx_lt0 x
  have hx1 := idx_lt1 x
  have hk := k.isLt
  unfold expBlk tileAt
  rw [dif_pos (by rw [h0]; omega)]
  congr 1
  · congr 3; apply Fin.ext; show k.val = _ / 8; rw [h0]; omega
  · funext a; match a with
    | ⟨0, _⟩ => apply Fin.ext; show (x 0).val = _ % 8; rw [h0]; omega
    | ⟨1, _⟩ => apply Fin.ext; show (x 1).val = _; exact h1.symm

/-! ## Buffers written piece by piece -/

/-- A buffer all of whose pieces agree with `G`, read at an index that a piece covers. -/
theorem read_writes_of_pieces {κ : Kind} {sp : Space} {s : Shape} {e : EltTy} (v : View sig κ sp s e) (f : v.ty.Contents (Elt F))
    (L : List (View.Piece (Elt F) s e)) (G : s.Idx → Elt F e) (h : View.PiecesOf G L) (y : s.Idx)
    (hy : ∃ p ∈ L, y ∈ p.1.set) : v.read (Elt F) (v.writes (Elt F) f L) y = G y := by
  rw [View.read_writes_apply_eq_canon v f y L hy]
  simpa using View.canon_append_of_piecesOf G [] L h y hy

end Cert.KernelIdeal.Gen

end
-- ==== Proof.Mm.Block.lean ====
/- What one grid point of the matrix-product kernel leaves in its three result buffers and in its first scratch. -/
module

public import proofs.«01_k».proof.Proof.Mm.Tile

@[expose] public section

set_option maxRecDepth 16384

noncomputable section

namespace Cert.KernelIdeal.Gen

open Idealize.ShloMosaic Idealize.ShloMosaic.TcCoe Idealize.SL.Sem

variable {F : FTy → Type} [FloatOps F]

/-- The codes of x in bf16, as the first scratch holds them from the first point on. -/
def xbOf (x0 : Vec F S1920x6144 .fp8e4m3) : Vec F S1920x6144 .bf16 :=
  (extf .bf16 (x0 : FVec F S1920x6144 .fp8e4m3) bitsLt_fp8e4m3_bf16 : FVec F S1920x6144 .bf16)

/-- The block of results: the product with the dequantised block, each row times its scale. -/
def yBlk (xb : Vec F S1920x6144 .bf16) (x1 : Vec F S1920x128 .f32) (x2 : Vec F S256x6144 .bf16) : Vec F S1920x256 .bf16 :=
  k0_pay5 xb (deqBlk x2) (View.ld x1 (Rect.unit (s := S1920x128) ![0, 0] S1920x1.size inb_S1920x128_S1920x1_0_0))

/-- The block of stored exponents: the exponents turned, cut to 192 columns and to eight bits. -/
def scalesBlk (x2 : Vec F S256x6144 .bf16) : Vec F S256x192 .i8 := k0_pay4 (expBlk x2)

/-- Only the first 192 rows of the exponents are stored. -/
theorem pay4_congr (s s' : Vec F S256x256 .i32) (h : ∀ y, (y 0).val < 192 → s y = s' y) :
    k0_pay4 s = k0_pay4 s' := by
  funext y
  pointwise [k0_pay4]
  congr 1
  apply h
  have := idx_lt1 y
  exact this

/-! ## Buffers after the stores -/

/-- A buffer whose one store is of the whole buffer holds what was stored. -/
theorem read_store_whole {κ : Kind} {sp : Space} {s : Shape} {e : EltTy} (v : View sig κ sp s e) (f : v.ty.Contents (Elt F))
    {off : Fin s.rank → Nat} (inb : ∀ a, off a + s.size a ≤ s.size a) (w : s.Idx → Elt F e) (h : ∀ a, off a = 0) :
    v.read (Elt F) (v.writes (Elt F) f [⟨Rect.unit off s.size inb, w⟩]) = w := by
  refine (View.read_writes_eq_canon v f _ fun y => ⟨_, List.mem_singleton_self _, ?_⟩).trans
    (View.canon_cons_unit_lit inb w [] h)
  rw [Rect.mem_set_unit]
  intro a
  rw [h a]
  have := (y a).isLt
  exact ⟨Nat.zero_le _, by omega⟩

/-- A buffer covered by pieces that all agree with `G` holds `G`. -/
theorem read_of_pieces {κ : Kind} {sp : Space} {s : Shape} {e : EltTy} (v : View sig κ sp s e) (f : v.ty.Contents (Elt F))
    (L : List (View.Piece (Elt F) s e)) (G : s.Idx → Elt F e) (h : View.PiecesOf G L)
    (hc : ∀ y, ∃ p ∈ L, y ∈ p.1.set) : v.read (Elt F) (v.writes (Elt F) f L) = G :=
  funext fun y => read_writes_of_pieces v f L G h y (hc y)

/-- A load of the whole of such a buffer reads `G`. -/
theorem load_of_pieces {κ : Kind} {sp : Space} {s : Shape} {e : EltTy} (v : View sig κ sp s e)
    (L : List (View.Piece (Elt F) s e)) (G : s.Idx → Elt F e) {off : Fin s.rank → Nat}
    (inb : ∀ a, off a + s.size a ≤ s.size a) (h0 : ∀ a, off a = 0) (h : View.PiecesOf G L)
    (hc : ∀ y, ∃ p ∈ L, y ∈ p.1.set) : v.readCov L (Rect.unit off s.size inb).toLoadRect = G := by
  rw [View.readCov_eq_canon_ld v L _ hc, View.ld_unit_lit inb _ h0, ← View.read_writes_eq_canon v v.junk L hc]
  exact read_of_pieces v _ L G h hc

/-- A load of the whole of a buffer reads what it holds. -/
theorem load_whole {κ : Kind} {sp : Space} {s : Shape} {e : EltTy} (v : View sig κ sp s e) (f : v.ty.Contents (Elt F))
    {off : Fin s.rank → Nat} (inb : ∀ a, off a + s.size a ≤ s.size a) (h0 : ∀ a, off a = 0) :
    v.readAt (Elt F) (Rect.unit off s.size inb).toLoadRect f = v.read (Elt F) f := by
  rw [View.readAt_eq_ld]; exact View.ld_unit_lit inb _ h0

/-- The stores below row 192 that the body does not make. -/
def tailPieces : List (View.Piece (Elt F) S256x256 .i32) :=
  (List.finRange 8).map fun k => ⟨Rect.unit (s := S256x256) ![192 + 8 * k.val, 0] S8x256.size fun a => by
    have := k.isLt; match a with
    | ⟨0, _⟩ => show 192 + 8 * k.val + 8 ≤ 256; omega
    | ⟨1, _⟩ => show 0 + 256 ≤ 256; omega, fun _ => (0#32 : BitVec 32)⟩

/-- The stored exponents, from a scratch whose pieces agree with the exponents and cover its first 192 rows. -/
theorem scales_of_pieces {κ : Kind} {sp : Space} (v : View sig κ sp S256x256 .i32) (f : v.ty.Contents (Elt F))
    (L : List (View.Piece (Elt F) S256x256 .i32)) (X : Vec F S256x6144 .bf16) {off : Fin S256x256.rank → Nat}
    (inb : ∀ a, off a + S256x256.size a ≤ S256x256.size a) (h0 : ∀ a, off a = 0) (h : View.PiecesOf (expBlk X) L)
    (hc : ∀ y, ∃ p ∈ L ++ tailPieces, y ∈ p.1.set) :
    k0_pay4 (v.readAt (Elt F) (Rect.unit off S256x256.size inb).toLoadRect (v.writes (Elt F) f L)) = scalesBlk X := by
  rw [load_whole v _ inb h0]
  refine pay4_congr _ _ fun y hy => read_writes_of_pieces v f L _ h y ?_
  obtain ⟨p, hp, hyp⟩ := hc y
  rcases List.mem_append.mp hp with hp | hp
  · exact ⟨p, hp, hyp⟩
  · exfalso
    obtain ⟨k, -, rfl⟩ := List.mem_map.mp hp
    rw [Rect.mem_set_unit] at hyp
    have := (hyp 0).1
    have h192 : 192 + 8 * k.val ≤ (y 0).val := this
    omega

/-- The converted codes of one band of x, as stored. -/
theorem xb_at (x0 : Vec F S1920x6144 .fp8e4m3) (off : Fin 2 → Nat) (inb : ∀ a, off a + S1920x256.size a ≤ S1920x6144.size a) (x : S1920x256.Idx) :
    k0_pay6 (View.ld x0 (Rect.unit (s := S1920x6144) off S1920x256.size inb)) x
      = xbOf x0 ((Rect.unit (s := S1920x6144) off S1920x256.size inb).emb x) := by
  unfold k0_pay6
  rw [shapeCast_self]
  rfl

end Cert.KernelIdeal.Gen

end
-- ==== Proof.Mm.RunB.lean ====
/- The body of the matrix-product kernel after the first point: what it leaves in its buffers. -/
module

public import proofs.«01_k».proof.Proof.Mm.Block

@[expose] public section

-- membership in a rectangle of production extents (`View.cover_of_tiled`): the elaborator's structural look
-- recurses once per coordinate of the long axes
set_option maxRecDepth 200000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point after the first, where the first scratch already holds the converted codes `xb`: what it
    leaves in the three result buffers. -/
theorem mmRun_B (c : Dev nD) (i : grid0.Coords) (arg1 : Memref sig .tc .vmem S1920x6144 .fp8e4m3) (harg1 : arg1.IsWhole) (arg2 : Memref sig .tc .vmem S1920x128 .f32) (harg2 : arg2.IsWhole) (arg3 : Memref sig .tc .vmem S256x6144 .bf16) (harg3 : arg3.IsWhole) (arg4 : Memref sig .tc .vmem S1920x256 .bf16) (harg4 : arg4.IsWhole) (arg5 : Memref sig .tc .vmem S256x6144 .fp8e4m3) (harg5 : arg5.IsWhole) (arg6 : Memref sig .tc .vmem S256x192 .i8) (harg6 : arg6.IsWhole) (arg7 : Memref sig .tc .vmem S1920x6144 .bf16) (harg7 : arg7.IsWhole) (arg8 : Memref sig .tc .vmem S6144x256 .bf16) (harg8 : arg8.IsWhole) (arg9 : Memref sig .tc .vmem S256x256 .i32) (harg9 : arg9.IsWhole) (hc0 : ¬cond0_0 i)
    (x0 : Vec F S1920x6144 .fp8e4m3) (x1 : Vec F S1920x128 .f32) (x2 : Vec F S256x6144 .bf16) (xb : Vec F S1920x6144 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xb ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yBlk xb x1 x2) ∗ owns (c : Thread nD τ) arg5 fullShare (codesBlk x2) ∗ owns (c : Thread nD τ) arg6 fullShare (scalesBlk x2) ∗ owns (c : Thread nD τ) arg7 fullShare xb ∗ (∃ d, owns (c : Thread nD τ) arg8 fullShare d) ∗ (∃ d, owns (c : Thread nD τ) arg9 fullShare d)) -∗ K ⟨⟩))
          ⊢ wp frame (wpE (defs₀ (F := F)) Variants.none c none) E (cc0_mm i arg1 harg1 arg2 harg2 arg3 harg3 arg4 harg4 arg5 harg5 arg6 harg6 arg7 harg7 arg8 harg8 arg9 harg9) K := by
    intro E K
    simp only [cc0_mm_eq_skeleton]; unfold cc0_mm_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%ds1, %fs1, -, HS1⟩, ⟨%ds2, %fs2, -, HS2⟩, Hk⟩
    subst hf0; subst hf1; subst hf2; subst hfs0
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro
      refine (read_store_whole arg4.view _ _ _ (by decide)).trans ?_
      unfold yBlk
      congr 1
      · exact load_whole arg7.view _ _ (by decide)
      · exact load_of_pieces arg8.view _ (deqBlk (View.read (Elt F) arg3.view f2)) _ (by decide)
          ⟨fun x => deq_at _ 23 x, fun x => deq_at _ 22 x, fun x => deq_at _ 21 x, fun x => deq_at _ 20 x, fun x => deq_at _ 19 x, fun x => deq_at _ 18 x, fun x => deq_at _ 17 x, fun x => deq_at _ 16 x, fun x => deq_at _ 15 x, fun x => deq_at _ 14 x, fun x => deq_at _ 13 x, fun x => deq_at _ 12 x, fun x => deq_at _ 11 x, fun x => deq_at _ 10 x, fun x => deq_at _ 9 x, fun x => deq_at _ 8 x, fun x => deq_at _ 7 x, fun x => deq_at _ 6 x, fun x => deq_at _ 5 x, fun x => deq_at _ 4 x, fun x => deq_at _ 3 x, fun x => deq_at _ 2 x, fun x => deq_at _ 1 x, fun x => deq_at _ 0 x, trivial⟩
          (View.cover_of_tiled _ S256x256.size (by rfl))
    isplitl [H4]
    · iexists _; isplitr; swap; · iexact H4
      ipureintro
      exact read_of_pieces arg5.view _ _ (codesBlk (View.read (Elt F) arg3.view f2))
        ⟨fun x => codes_at _ 23 x, fun x => codes_at _ 22 x, fun x => codes_at _ 21 x, fun x => codes_at _ 20 x, fun x => codes_at _ 19 x, fun x => codes_at _ 18 x, fun x => codes_at _ 17 x, fun x => codes_at _ 16 x, fun x => codes_at _ 15 x, fun x => codes_at _ 14 x, fun x => codes_at _ 13 x, fun x => codes_at _ 12 x, fun x => codes_at _ 11 x, fun x => codes_at _ 10 x, fun x => codes_at _ 9 x, fun x => codes_at _ 8 x, fun x => codes_at _ 7 x, fun x => codes_at _ 6 x, fun x => codes_at _ 5 x, fun x => codes_at _ 4 x, fun x => codes_at _ 3 x, fun x => codes_at _ 2 x, fun x => codes_at _ 1 x, fun x => codes_at _ 0 x, trivial⟩
        (View.cover_of_tiled _ S256x256.size (by rfl))
    isplitl [H5]
    · iexists _; isplitr; swap; · iexact H5
      ipureintro
      refine (read_store_whole arg6.view _ _ _ (by decide)).trans ?_
      exact scales_of_pieces arg9.view _ _ (View.read (Elt F) arg3.view f2) _ (by decide)
        ⟨fun x => exp_at _ 23 x, fun x => exp_at _ 22 x, fun x => exp_at _ 21 x, fun x => exp_at _ 20 x, fun x => exp_at _ 19 x, fun x => exp_at _ 18 x, fun x => exp_at _ 17 x, fun x => exp_at _ 16 x, fun x => exp_at _ 15 x, fun x => exp_at _ 14 x, fun x => exp_at _ 13 x, fun x => exp_at _ 12 x, fun x => exp_at _ 11 x, fun x => exp_at _ 10 x, fun x => exp_at _ 9 x, fun x => exp_at _ 8 x, fun x => exp_at _ 7 x, fun x => exp_at _ 6 x, fun x => exp_at _ 5 x, fun x => exp_at _ 4 x, fun x => exp_at _ 3 x, fun x => exp_at _ 2 x, fun x => exp_at _ 1 x, fun x => exp_at _ 0 x, trivial⟩
        (View.cover_of_tiled _ S8x256.size (by rfl))
    isplitl [HS0]
    · iexists _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Mm.RunA.lean ====
/- The body of the matrix-product kernel at the first point: what it leaves in its buffers. -/
module

public import proofs.«01_k».proof.Proof.Mm.RunB

@[expose] public section

-- membership in a rectangle of production extents (`View.cover_of_tiled`): the elaborator's structural look
-- recurses once per coordinate of the long axes
set_option maxRecDepth 200000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the first point, which fills the first scratch with the converted codes: what it leaves in the three
    result buffers and in that scratch. -/
theorem mmRun_A (c : Dev nD) (i : grid0.Coords) (arg1 : Memref sig .tc .vmem S1920x6144 .fp8e4m3) (harg1 : arg1.IsWhole) (arg2 : Memref sig .tc .vmem S1920x128 .f32) (harg2 : arg2.IsWhole) (arg3 : Memref sig .tc .vmem S256x6144 .bf16) (harg3 : arg3.IsWhole) (arg4 : Memref sig .tc .vmem S1920x256 .bf16) (harg4 : arg4.IsWhole) (arg5 : Memref sig .tc .vmem S256x6144 .fp8e4m3) (harg5 : arg5.IsWhole) (arg6 : Memref sig .tc .vmem S256x192 .i8) (harg6 : arg6.IsWhole) (arg7 : Memref sig .tc .vmem S1920x6144 .bf16) (harg7 : arg7.IsWhole) (arg8 : Memref sig .tc .vmem S6144x256 .bf16) (harg8 : arg8.IsWhole) (arg9 : Memref sig .tc .vmem S256x256 .i32) (harg9 : arg9.IsWhole) (hc0 : cond0_0 i)
    (x0 : Vec F S1920x6144 .fp8e4m3) (x1 : Vec F S1920x128 .f32) (x2 : Vec F S256x6144 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yBlk (xbOf x0) x1 x2) ∗ owns (c : Thread nD τ) arg5 fullShare (codesBlk x2) ∗ owns (c : Thread nD τ) arg6 fullShare (scalesBlk x2) ∗ owns (c : Thread nD τ) arg7 fullShare (xbOf x0) ∗ (∃ d, owns (c : Thread nD τ) arg8 fullShare d) ∗ (∃ d, owns (c : Thread nD τ) arg9 fullShare d)) -∗ K ⟨⟩))
          ⊢ wp frame (wpE (defs₀ (F := F)) Variants.none c none) E (cc0_mm i arg1 harg1 arg2 harg2 arg3 harg3 arg4 harg4 arg5 harg5 arg6 harg6 arg7 harg7 arg8 harg8 arg9 harg9) K := by
    intro E K
    simp only [cc0_mm_eq_skeleton]; unfold cc0_mm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    subst hf0; subst hf1; subst hf2
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro
      refine (read_store_whole arg4.view _ _ _ (by decide)).trans ?_
      unfold yBlk
      congr 1
      · exact load_of_pieces arg7.view _ (xbOf (View.read (Elt F) arg1.view f0)) _ (by decide) ⟨fun x => xb_at (View.read (Elt F) arg1.view f0) ![0, 5888] _ x, fun x => xb_at (View.read (Elt F) arg1.view f0) ![0, 5632] _ x, fun x => xb_at (View.read (Elt F) arg1.view f0) ![0, 5376] _ x, fun x => xb_at (View.read (Elt F) arg1.view f0) ![0, 5120] _ x, fun x => xb_at (View.read (Elt F) arg1.view f0) ![0, 4864] _ x, fun x => xb_at (View.read (Elt F) arg1.view f0) ![0, 4608] _ x, fun x => xb_at (View.read (Elt F) arg1.view f0) ![0, 4352] _ x, fun x => xb_at (View.read (Elt F) arg1.view f0) ![0, 4096] _ x, fun x => xb_at (View.read (Elt F) arg1.view f0) ![0, 3840] _ x, fun x => xb_at (View.read (Elt F) arg1.view f0) ![0, 3584] _ x, fun x => xb_at (View.read (Elt F) arg1.view f0) ![0, 3328] _ x, fun x => xb_at (View.read (Elt F) arg1.view f0) ![0, 3072] _ x, fun x => xb_at (View.read (Elt F) arg1.view f0) ![0, 2816] _ x, fun x => xb_at (View.read (Elt F) arg1.view f0) ![0, 2560] _ x, fun x => xb_at (View.read (Elt F) arg1.view f0) ![0, 2304] _ x, fun x => xb_at (View.read (Elt F) arg1.view f0) ![0, 2048] _ x, fun x => xb_at (View.read (Elt F) arg1.view f0) ![0, 1792] _ x, fun x => xb_at (View.read (Elt F) arg1.view f0) ![0, 1536] _ x, fun x => xb_at (View.read (Elt F) arg1.view f0) ![0, 1280] _ x, fun x => xb_at (View.read (Elt F) arg1.view f0) ![0, 1024] _ x, fun x => xb_at (View.read (Elt F) arg1.view f0) ![0, 768] _ x, fun x => xb_at (View.read (Elt F) arg1.view f0) ![0, 512] _ x, fun x => xb_at (View.read (Elt F) arg1.view f0) ![0, 256] _ x, fun x => xb_at (View.read (Elt F) arg1.view f0) ![0, 0] _ x, trivial⟩ (View.cover_of_tiled _ S1920x256.size (by rfl))
      · exact load_of_pieces arg8.view _ (deqBlk (View.read (Elt F) arg3.view f2)) _ (by decide)
          ⟨fun x => deq_at _ 23 x, fun x => deq_at _ 22 x, fun x => deq_at _ 21 x, fun x => deq_at _ 20 x, fun x => deq_at _ 19 x, fun x => deq_at _ 18 x, fun x => deq_at _ 17 x, fun x => deq_at _ 16 x, fun x => deq_at _ 15 x, fun x => deq_at _ 14 x, fun x => deq_at _ 13 x, fun x => deq_at _ 12 x, fun x => deq_at _ 11 x, fun x => deq_at _ 10 x, fun x => deq_at _ 9 x, fun x => deq_at _ 8 x, fun x => deq_at _ 7 x, fun x => deq_at _ 6 x, fun x => deq_at _ 5 x, fun x => deq_at _ 4 x, fun x => deq_at _ 3 x, fun x => deq_at _ 2 x, fun x => deq_at _ 1 x, fun x => deq_at _ 0 x, trivial⟩
          (View.cover_of_tiled _ S256x256.size (by rfl))
    isplitl [H4]
    · iexists _; isplitr; swap; · iexact H4
      ipureintro
      exact read_of_pieces arg5.view _ _ (codesBlk (View.read (Elt F) arg3.view f2))
        ⟨fun x => codes_at _ 23 x, fun x => codes_at _ 22 x, fun x => codes_at _ 21 x, fun x => codes_at _ 20 x, fun x => codes_at _ 19 x, fun x => codes_at _ 18 x, fun x => codes_at _ 17 x, fun x => codes_at _ 16 x, fun x => codes_at _ 15 x, fun x => codes_at _ 14 x, fun x => codes_at _ 13 x, fun x => codes_at _ 12 x, fun x => codes_at _ 11 x, fun x => codes_at _ 10 x, fun x => codes_at _ 9 x, fun x => codes_at _ 8 x, fun x => codes_at _ 7 x, fun x => codes_at _ 6 x, fun x => codes_at _ 5 x, fun x => codes_at _ 4 x, fun x => codes_at _ 3 x, fun x => codes_at _ 2 x, fun x => codes_at _ 1 x, fun x => codes_at _ 0 x, trivial⟩
        (View.cover_of_tiled _ S256x256.size (by rfl))
    isplitl [H5]
    · iexists _; isplitr; swap; · iexact H5
      ipureintro
      refine (read_store_whole arg6.view _ _ _ (by decide)).trans ?_
      exact scales_of_pieces arg9.view _ _ (View.read (Elt F) arg3.view f2) _ (by decide)
        ⟨fun x => exp_at _ 23 x, fun x => exp_at _ 22 x, fun x => exp_at _ 21 x, fun x => exp_at _ 20 x, fun x => exp_at _ 19 x, fun x => exp_at _ 18 x, fun x => exp_at _ 17 x, fun x => exp_at _ 16 x, fun x => exp_at _ 15 x, fun x => exp_at _ 14 x, fun x => exp_at _ 13 x, fun x => exp_at _ 12 x, fun x => exp_at _ 11 x, fun x => exp_at _ 10 x, fun x => exp_at _ 9 x, fun x => exp_at _ 8 x, fun x => exp_at _ 7 x, fun x => exp_at _ 6 x, fun x => exp_at _ 5 x, fun x => exp_at _ 4 x, fun x => exp_at _ 3 x, fun x => exp_at _ 2 x, fun x => exp_at _ 1 x, fun x => exp_at _ 0 x, trivial⟩
        (View.cover_of_tiled _ S8x256.size (by rfl))
    isplitl [HS0]
    · iexists _; isplitr; swap; · iexact HS0
      ipureintro
      exact read_of_pieces arg7.view _ _ (xbOf (View.read (Elt F) arg1.view f0)) ⟨fun x => xb_at (View.read (Elt F) arg1.view f0) ![0, 5888] _ x, fun x => xb_at (View.read (Elt F) arg1.view f0) ![0, 5632] _ x, fun x => xb_at (View.read (Elt F) arg1.view f0) ![0, 5376] _ x, fun x => xb_at (View.read (Elt F) arg1.view f0) ![0, 5120] _ x, fun x => xb_at (View.read (Elt F) arg1.view f0) ![0, 4864] _ x, fun x => xb_at (View.read (Elt F) arg1.view f0) ![0, 4608] _ x, fun x => xb_at (View.read (Elt F) arg1.view f0) ![0, 4352] _ x, fun x => xb_at (View.read (Elt F) arg1.view f0) ![0, 4096] _ x, fun x => xb_at (View.read (Elt F) arg1.view f0) ![0, 3840] _ x, fun x => xb_at (View.read (Elt F) arg1.view f0) ![0, 3584] _ x, fun x => xb_at (View.read (Elt F) arg1.view f0) ![0, 3328] _ x, fun x => xb_at (View.read (Elt F) arg1.view f0) ![0, 3072] _ x, fun x => xb_at (View.read (Elt F) arg1.view f0) ![0, 2816] _ x, fun x => xb_at (View.read (Elt F) arg1.view f0) ![0, 2560] _ x, fun x => xb_at (View.read (Elt F) arg1.view f0) ![0, 2304] _ x, fun x => xb_at (View.read (Elt F) arg1.view f0) ![0, 2048] _ x, fun x => xb_at (View.read (Elt F) arg1.view f0) ![0, 1792] _ x, fun x => xb_at (View.read (Elt F) arg1.view f0) ![0, 1536] _ x, fun x => xb_at (View.read (Elt F) arg1.view f0) ![0, 1280] _ x, fun x => xb_at (View.read (Elt F) arg1.view f0) ![0, 1024] _ x, fun x => xb_at (View.read (Elt F) arg1.view f0) ![0, 768] _ x, fun x => xb_at (View.read (Elt F) arg1.view f0) ![0, 512] _ x, fun x => xb_at (View.read (Elt F) arg1.view f0) ![0, 256] _ x, fun x => xb_at (View.read (Elt F) arg1.view f0) ![0, 0] _ x, trivial⟩ (View.cover_of_tiled _ S1920x256.size (by rfl))
    isplitl [HS1]
    · iexists _, _; isplitr; swap; · iexact HS1
      ipureintro; rfl
    iexists _, _; isplitr; swap; · iexact HS2
    ipureintro; rfl

end Cert.KernelIdeal.Gen

end
-- ==== Proof.Mm.Frame.lean ====
/- What the matrix-product kernel's run leaves: the proof data with the value of each result block, the body obligation at
   every point, the run, and the frame. -/
module

public import proofs.«01_k».proof.Proof.Mm.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The point at which the scratch is filled. -/
abbrev tFirst : Fin cfg0.N := ⟨0, by rw [show cfg0.N = 42 from N_0]; decide⟩

/-- The block of the codes of x is the whole array, the same at every point. -/
theorem iblk0_const (c : Dev nD) (t : Fin cfg0.N) : (iblk m c 0 t : Vec F S1920x6144 .fp8e4m3) = iblk m c 0 tFirst := rfl

/-- The block of the scales of x is the whole array, the same at every point. -/
theorem iblk1_const (c : Dev nD) (t : Fin cfg0.N) : (iblk m c 1 t : Vec F S1920x128 .f32) = iblk m c 1 tFirst := rfl

/-- The converted codes of x that the first scratch carries. -/
def xbC (c : Dev nD) : Vec F S1920x6144 .bf16 := xbOf (iblk m c 0 tFirst)

/-- What is held between points once the first has run: the converted codes of x in the first scratch, the other two scratch
    buffers at some contents, and the generator register. -/
def PhiC (c : Dev nD) : sProp 𝕄 :=
  iprop(iprop(owns (c : Thread nD τ) scM0_0 fullShare (xbC m c) ∗ (∃ d, owns (c : Thread nD τ) scM0_1 fullShare d) ∗ (∃ d, owns (c : Thread nD τ) scM0_2 fullShare d)) ∗ (∃ r, prngReg c r))

/-- The proof data of the one pipeline on core `c`: each input's buffer stays at its block; the three result buffers hold the
    products' block, the codes and the stored exponents of the point's block of weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (xbC m c) (iblk m c 1 t) (iblk m c 2 t)
    | ⟨4, _⟩ => codesBlk (iblk m c 2 t)
    | ⟨5, _⟩ => scalesBlk (iblk m c 2 t)
  Φ t := if t.val = 0 then Pipeline.ΦA spec0 c else PhiC m c
  q _ := fullShare
  owed _ := 0

/-- The proof data's arrays are the arrays at launch. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
/-- What window 1 (the x scales) holds after grid point `t`. -/
theorem after0_1 (c : Dev nD) (t : Fin cfg0.N) : (dats m 0 c).after 1 t = iblk m c 1 t := by dsimp only [dats]
/-- What window 2 (the w) holds after grid point `t`. -/
theorem after0_2 (c : Dev nD) (t : Fin cfg0.N) : (dats m 0 c).after 2 t = iblk m c 2 t := by dsimp only [dats]
/-- What window 3 (the product) holds after grid point `t`. -/
theorem after0_3 (c : Dev nD) (t : Fin cfg0.N) : (dats m 0 c).after 3 t = yBlk (xbC m c) (iblk m c 1 t) (iblk m c 2 t) := by dsimp only [dats]
/-- What window 4 (the codes of w) holds after grid point `t`. -/
theorem after0_4 (c : Dev nD) (t : Fin cfg0.N) : (dats m 0 c).after 4 t = codesBlk (iblk m c 2 t) := by dsimp only [dats]
/-- What window 5 (the scales of w) holds after grid point `t`. -/
theorem after0_5 (c : Dev nD) (t : Fin cfg0.N) : (dats m 0 c).after 5 t = scalesBlk (iblk m c 2 t) := by dsimp only [dats]

/-- After a point the carried scratch is filled. -/
theorem Phi_succ (c : Dev nD) (t : Fin cfg0.N) : (dats m 0 c).Φ t.succ = PhiC m c := by
  dsimp only [dats]; exact if_neg (by simp)
/-- Before the first point nothing is known of the scratch. -/
theorem Phi_first (c : Dev nD) (t : Fin cfg0.N) (h : t.val = 0) : (dats m 0 c).Φ t.castSucc = Pipeline.ΦA spec0 c := by
  dsimp only [dats]; exact if_pos h
/-- Before a later point the carried scratch is filled. -/
theorem Phi_later (c : Dev nD) (t : Fin cfg0.N) (h : ¬ t.val = 0) : (dats m 0 c).Φ t.castSucc = PhiC m c := by
  dsimp only [dats]; exact if_neg h

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 (the x scales) holds before grid point `t`. -/
theorem before0_1 (c : Dev nD) (t : Fin cfg0.N) (d) : (dats m 0 c).before 1 t d = iblk m c 1 t :=
  before0_1_of m (dats m 0 c) (A_eq m c 1) (after0_1 m c) t d
/-- What window 2 (the w) holds before grid point `t`. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the first fills the carried scratch, the later ones find it filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, show (dats m 0 c).owesAt () t.succ = (dats m 0 c).owesAt () t.castSucc from rfl,
    after0_0, after0_1, after0_2, after0_3, after0_4, after0_5]
  have hN : t.val < 42 := lt_of_lt_of_eq t.isLt (show cfg0.N = 42 from N_0)
  by_cases h0 : t.val % 42 = 0
  · rw [Phi_first m c t (by omega), PhiA0_eq]; unfold PhiC
    rw [show xbC m c = xbOf (iblk m c 0 t) from rfl]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((mmRun_A c (grid0.coords t) _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi_later m c t (by omega)]; unfold PhiC
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((mmRun_B c (grid0.coords t) _ _ _ _ _ _ _ _ _ _ _ _ _ _ _ _ _ _ (fun h => h0 ((hcond0_0 t).mp h)) (iblk m c 0 t) (iblk m c 1 t) (iblk m c 2 t) (xbC m c)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the invariant is the scratch at some contents, -/
theorem Phi_in (c : Dev nD) : (Pipeline.ΦA spec0 c : sProp 𝕄) ⊢ (dats m 0 c).Φ 0 :=
  (Phi_first m c tFirst rfl).symm ▸ .rfl

/-- and after the last it is given back so. -/
theorem Phi_out (c : Dev nD) : (dats m 0 c).Φ (Fin.last cfg0.N) ⊢ (Pipeline.ΦA spec0 c : sProp 𝕄) := by
  have e : (dats m 0 c).Φ (Fin.last cfg0.N) = PhiC m c := by
    dsimp only [dats]; exact if_neg (by rw [Fin.val_last, show cfg0.N = 42 from N_0]; decide)
  rw [e, PhiA0_eq]; unfold PhiC
  iintro ⟨⟨HS0, HS1, HS2⟩, Hg⟩
  isplitl [HS0 HS1 HS2]
  · isplitl [HS0]
    · iexists _; iexact HS0
    isplitl [HS1]
    · iexact HS1
    iexact HS2
  iexact Hg

/-! ## The run and the frame -/

set_option backward.isDefEq.respectTransparency.types false in
set_option maxHeartbeats 800000 in
/-- Every fair execution ends with each array at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Mx.Words.lean ====
/- The search for the top bits of a float word over the extended reals: ten bits of the word, from the highest down, each kept if
   the float the word then denotes is not above the given value. -/
module

public import Idealize.ShloMosaic.PureOps.Ideal
public import Idealize.ShloMosaic.Lib.IdealHost

@[expose] public section

noncomputable section

namespace Cert.Mx

open Idealize.ShloMosaic

/-- The float whose word is `c` in the ten bits below the sign: eight of exponent and two of mantissa. -/
def val (c : ℕ) : EReal := Ideal.ofBits .f32 (BitVec.ofNat 32 (c * 2097152))

/-- The three fields of a word without sign. -/
theorem fields_of (n : ℕ) (hn : n < 2 ^ 31) :
    ((BitVec.ofNat 32 n).extractLsb' 31 1).toNat = 0 ∧
    ((BitVec.ofNat 32 n).extractLsb' 23 8).toNat = n / 2 ^ 23 ∧
    ((BitVec.ofNat 32 n).extractLsb' 0 23).toNat = n % 2 ^ 23 := by
  have hm : n % 2 ^ 32 = n := Nat.mod_eq_of_lt (hn.trans (Nat.pow_lt_pow_right (by norm_num) (by norm_num)))
  simp only [BitVec.extractLsb'_toNat, BitVec.toNat_ofNat, Nat.shiftRight_eq_div_pow, hm]
  refine ⟨?_, ?_, ?_⟩
  · rw [Nat.div_eq_of_lt hn, Nat.zero_mod]
  · exact Nat.mod_eq_of_lt ((Nat.div_lt_iff_lt_mul (by positivity)).mpr (by rw [← pow_add]; exact hn))
  · rw [pow_zero, Nat.div_one]

/-- The three fields of a word of ten bits, for a unit `k` of the bits below. -/
theorem fields_unit (c k : ℕ) (hk : 4 * k = 2 ^ 23) (hc : c < 1024) :
    ((BitVec.ofNat 32 (c * k)).extractLsb' 31 1).toNat = 0 ∧
    ((BitVec.ofNat 32 (c * k)).extractLsb' 23 8).toNat = c / 4 ∧
    ((BitVec.ofNat 32 (c * k)).extractLsb' 0 23).toNat = c % 4 * k := by
  have h31 : (2 : ℕ) ^ 31 = 2 ^ 8 * 2 ^ 23 := by rw [← pow_add]
  have kpos : 0 < k := by
    rcases Nat.eq_zero_or_pos k with h | h
    · rw [h] at hk; exact absurd hk (by positivity)
    · exact h
  have hn : c * k < 2 ^ 31 := by
    rw [h31, ← hk]
    nlinarith
  obtain ⟨h1, h2, h3⟩ := fields_of (c * k) hn
  refine ⟨h1, h2.trans ?_, h3.trans ?_⟩
  · rw [← hk, Nat.mul_div_mul_right c 4 kpos]
  · rw [← hk, Nat.mul_mod_mul_right]

/-- The three fields of a word of ten bits. -/
theorem fields (c : ℕ) (hc : c < 1024) :
    ((BitVec.ofNat 32 (c * 2097152)).extractLsb' 31 1).toNat = 0 ∧
    ((BitVec.ofNat 32 (c * 2097152)).extractLsb' 23 8).toNat = c / 4 ∧
    ((BitVec.ofNat 32 (c * 2097152)).extractLsb' 0 23).toNat = c % 4 * 2097152 :=
  fields_unit c 2097152 (by norm_num) hc

/-- `ofBits` at a word whose fields are known. -/
theorem ofBits_fields (b : BitVec 32) (x f : ℕ) (h1 : (b.extractLsb' 31 1).toNat = 0) (h2 : (b.extractLsb' 23 8).toNat = x)
    (h3 : (b.extractLsb' 0 23).toNat = f) :
    Ideal.ofBits .f32 b = if x = 255 then (if f = 0 then ⊤ else ⊥)
      else if x = 0 then (((f : ℝ) * (2 : ℝ) ^ (-149 : ℤ) : ℝ) : EReal)
      else ((((2 ^ 23 + f : ℕ) : ℝ) * (2 : ℝ) ^ ((x : ℤ) - 150) : ℝ) : EReal) := by
  have hs : (b.extractLsb' 31 1 == 1#1) = false := by
    rw [beq_eq_false_iff_ne]; intro h; rw [h] at h1; simp at h1
  simp only [Ideal.ofBits, Ideal.ieee, Nat.reduceAdd, hs, h2, h3]
  norm_num [sub_sub]

/-- A zero or subnormal word. -/
theorem val_low (c : ℕ) (hc : c < 4) : val c = (((c : ℝ) * (2 : ℝ) ^ (-128 : ℤ) : ℝ) : EReal) := by
  obtain ⟨h1, h2, h3⟩ := fields c (by omega)
  rw [val, ofBits_fields _ _ _ h1 h2 h3, if_neg (by omega), if_pos (by omega), Nat.mod_eq_of_lt hc]
  congr 1
  push_cast
  rw [mul_assoc]; congr 1; norm_num

/-- A normal word. -/
theorem val_norm (x r : ℕ) (h0 : 0 < x) (hx : x < 255) (hr : r < 4) :
    val (4 * x + r) = ((((4 + r : ℕ) : ℝ) * (2 : ℝ) ^ ((x : ℤ) - 129) : ℝ) : EReal) := by
  obtain ⟨h1, h2, h3⟩ := fields (4 * x + r) (by omega)
  have e1 : (4 * x + r) / 4 = x := by omega
  have e2 : (4 * x + r) % 4 = r := by omega
  rw [e1] at h2; rw [e2] at h3
  rw [val, ofBits_fields _ _ _ h1 h2 h3, if_neg (by omega), if_neg (by omega)]
  congr 1
  have : (2 : ℝ) ^ ((x : ℤ) - 129) = (2 : ℝ) ^ ((x : ℤ) - 150) * 2 ^ (21 : ℤ) := by
    rw [← zpow_add₀ (by norm_num)]; congr 1; ring
  rw [this]; push_cast; norm_num; ring

/-- The word of infinity. -/
theorem val_inf : val 1020 = ⊤ := by
  obtain ⟨h1, h2, h3⟩ := fields 1020 (by omega)
  rw [val, ofBits_fields _ _ _ h1 h2 h3]; simp

/-- The words past it. -/
theorem val_nan (c : ℕ) (h : 1020 < c) (hc : c < 1024) : val c = ⊥ := by
  obtain ⟨h1, h2, h3⟩ := fields c hc
  rw [val, ofBits_fields _ _ _ h1 h2 h3, if_pos (by omega), if_neg (by omega)]

/-- One step of the search: try the bit `s`. -/
def step (a : EReal) (s b : BitVec 32) : BitVec 32 :=
  if Ideal.ofBits .f32 (b ||| s) ≤ a then b ||| s else b

/-- The search. -/
def top (a : EReal) : BitVec 32 :=
  step a 2097152#32 <| step a 4194304#32 <| step a 8388608#32 <| step a 16777216#32 <| step a 33554432#32 <|
  step a 67108864#32 <| step a 134217728#32 <| step a 268435456#32 <| step a 536870912#32 <| step a 1073741824#32 0#32

/-- Setting a bit that is clear, with all those below it, adds it. -/
theorem or_bit (q j : ℕ) :
    BitVec.ofNat 32 (2 * q * 2 ^ j * 2097152) ||| BitVec.ofNat 32 (2 ^ j * 2097152)
      = BitVec.ofNat 32 ((2 * q + 1) * 2 ^ j * 2097152) := by
  have h1 : 2 ^ (j + 21) < 2 ^ (j + 22) := Nat.pow_lt_pow_right (by norm_num) (by omega)
  have e1 : 2 * q * 2 ^ j * 2097152 = 2 ^ (j + 22) * q := by rw [pow_add]; ring
  have e2 : 2 ^ j * 2097152 = 2 ^ (j + 21) := by rw [pow_add]; norm_num
  have e3 : (2 * q + 1) * 2 ^ j * 2097152 = 2 ^ (j + 22) * q + 2 ^ (j + 21) := by rw [pow_add, pow_add]; ring
  rw [e1, e2, e3, ← BitVec.ofNat_or, Nat.two_pow_add_eq_or_of_lt h1 q]

/-- What the search keeps, with the bits from `j` up decided, below infinity: the word's float is at most `a`, and the next
    word's is above it, unless that is past infinity. -/
def Kept (a : EReal) (j : ℕ) (b : BitVec 32) : Prop :=
  ∃ q : ℕ, b = BitVec.ofNat 32 (q * 2 ^ j * 2097152) ∧ q * 2 ^ j < 1020 ∧ val (q * 2 ^ j) ≤ a ∧
    (a < val ((q + 1) * 2 ^ j) ∨ 1020 < (q + 1) * 2 ^ j)

/-- One step keeps it. -/
theorem kept_step (a : EReal) (ha : a < ⊤) (j : ℕ) (hj : j < 10) (b : BitVec 32) (h : Kept a (j + 1) b) :
    Kept a j (step a (BitVec.ofNat 32 (2 ^ j * 2097152)) b) := by
  obtain ⟨q, rfl, hlt, hle, hnext⟩ := h
  have e1 : q * 2 ^ (j + 1) = 2 * q * 2 ^ j := by rw [pow_succ]; ring
  have e2 : (q + 1) * 2 ^ (j + 1) = (2 * q + 1 + 1) * 2 ^ j := by rw [pow_succ]; ring
  rw [e1] at hlt hle ⊢
  rw [e2] at hnext
  have hcand : (2 * q + 1) * 2 ^ j ≤ 1020 := by
    interval_cases j <;> omega
  unfold step
  rw [or_bit q j]
  change Kept a j (if val ((2 * q + 1) * 2 ^ j) ≤ a then _ else _)
  split
  · rename_i hv
    refine ⟨2 * q + 1, rfl, ?_, hv, hnext⟩
    rcases Nat.lt_or_ge ((2 * q + 1) * 2 ^ j) 1020 with h | h
    · exact h
    · exfalso
      rw [show (2 * q + 1) * 2 ^ j = 1020 by omega, val_inf] at hv
      exact absurd hv (not_le.mpr ha)
  · rename_i hv
    exact ⟨2 * q, rfl, hlt, hle, .inl (not_le.mp hv)⟩

/-- The search's result below infinity: the greatest of the words whose float is at most `a`. -/
theorem top_spec (a : EReal) (h0 : 0 ≤ a) (ha : a < ⊤) :
    ∃ c : ℕ, top a = BitVec.ofNat 32 (c * 2097152) ∧ c < 1020 ∧ val c ≤ a ∧ a < val (c + 1) := by
  have hs : Kept a 10 0#32 := ⟨0, rfl, by norm_num, by
    rw [Nat.zero_mul, val_low 0 (by omega)]; simpa using h0, .inr (by norm_num)⟩
  have h := kept_step a ha 0 (by omega) _ <| kept_step a ha 1 (by omega) _ <| kept_step a ha 2 (by omega) _ <|
    kept_step a ha 3 (by omega) _ <| kept_step a ha 4 (by omega) _ <| kept_step a ha 5 (by omega) _ <|
    kept_step a ha 6 (by omega) _ <| kept_step a ha 7 (by omega) _ <| kept_step a ha 8 (by omega) _ <|
    kept_step a ha 9 (by omega) _ hs
  obtain ⟨q, hq, hlt, hle, hn⟩ := h
  rw [pow_zero, mul_one] at hlt hle hn
  refine ⟨q, (show top a = BitVec.ofNat 32 (q * 2 ^ 0 * 2097152) from hq).trans (by rw [pow_zero, mul_one]), hlt, hle, hn.resolve_right (by omega)⟩

/-- The search at infinity keeps every bit. -/
theorem top_inf : top ⊤ = BitVec.ofNat 32 (1023 * 2097152) := by
  unfold top step
  simp only [le_top, if_true]
  decide

end Cert.Mx

end
-- ==== Proof.Mx.Exponent.lean ====
/- The scale exponent over the extended reals: the kernels pick it out of the word of the largest magnitude, the reference takes
   it from the logarithm of that magnitude over 448. Both give the same power of two. -/
module

public import proofs.«01_k».proof.Proof.Mx.Words

@[expose] public section

noncomputable section

namespace Cert.Mx

open Idealize.ShloMosaic

/-! ## The kernels' exponent -/

/-- The exponent field the kernels derive from the ten top bits of the magnitude's word. -/
def fieldOf (b : BitVec 32) : BitVec 32 :=
  Scalar.select (IntOp.andi (IntOp.cmpi .sge b 81788928#32) (IntOp.cmpi .slt b 2139095040#32))
    (IntOp.andi (IntOp.addi b 2097152#32) 2139095040#32) 1132462080#32
/-- One step of the search, in the kernels' own operations. -/
def kStep (a : EReal) (s b : BitVec 32) : BitVec 32 :=
  Scalar.select (Ideal.cmp .ole (Ideal.ofBits .f32 (IntOp.ori b s)) a) (IntOp.ori b s) b
/-- It is the step of `top`. -/
theorem kStep_eq (a : EReal) (s b : BitVec 32) : kStep a s b = step a s b := by
  unfold kStep step
  change Scalar.select (BitVec.ofBool (decide (Ideal.ofBits .f32 (b ||| s) ≤ a))) (b ||| s) b = _
  by_cases h : Ideal.ofBits .f32 (b ||| s) ≤ a
  · rw [if_pos h, decide_eq_true h]; rfl
  · rw [if_neg h, decide_eq_false h]; rfl
/-- The search, in the kernels' own operations. -/
def kTop (a : EReal) : BitVec 32 :=
  kStep a 2097152#32 <| kStep a 4194304#32 <| kStep a 8388608#32 <| kStep a 16777216#32 <| kStep a 33554432#32 <|
  kStep a 67108864#32 <| kStep a 134217728#32 <| kStep a 268435456#32 <| kStep a 536870912#32 <| kStep a 1073741824#32 0#32
/-- It is `top`. -/
theorem kTop_eq (a : EReal) : kTop a = top a := by simp only [kTop, top, kStep_eq]
/-- The same, from the magnitude. -/
def kField (a : EReal) : BitVec 32 := fieldOf (kTop a)
/-- The word of the scale. -/
def kWord (a : EReal) : BitVec 32 := IntOp.subi (kField a) 67108864#32
/-- The scale. -/
def kScale (a : EReal) : EReal := Ideal.ofBits .f32 (kWord a)
/-- The reciprocal of the scale. -/
def kInv (a : EReal) : EReal := Ideal.ofBits .f32 (IntOp.subi 2197815296#32 (kField a))
/-- The biased exponent of the scale. -/
def kExp (a : EReal) : BitVec 32 := IntOp.shrsi .vector (kWord a) 23#32

/-! ## The search on whole arrays -/

section
variable {s : Shape}

/-- One step of the search on an array of magnitudes. -/
def vStep (a : FVec Ideal s .f32) (k : BitVec 32) (b : IVec s 32) : IVec s 32 :=
  select (cmpf .ole (bitcastToFloat .f32 (ori b (broadcast s k))) a) (ori b (broadcast s k)) b
/-- At an index it is the step. -/
theorem vStep_at (a : FVec Ideal s .f32) (k : BitVec 32) (b : IVec s 32) (i : s.Idx) : vStep a k b i = kStep (a i) k (b i) := rfl
/-- The search on an array of magnitudes. -/
def vTop (a : FVec Ideal s .f32) : IVec s 32 :=
  vStep a 2097152#32 <| vStep a 4194304#32 <| vStep a 8388608#32 <| vStep a 16777216#32 <| vStep a 33554432#32 <|
  vStep a 67108864#32 <| vStep a 134217728#32 <| vStep a 268435456#32 <| vStep a 536870912#32 <| vStep a 1073741824#32 <|
  broadcast s 0#32
/-- At an index it is the search. -/
theorem vTop_at (a : FVec Ideal s .f32) (i : s.Idx) : vTop a i = kTop (a i) := by
  simp only [vTop, kTop, vStep_at]; rfl
/-- The exponent field from an array of top bits. -/
def vFieldOf (b : IVec s 32) : IVec s 32 :=
  select (andi (cmpi .sge b (broadcast s 81788928#32)) (cmpi .slt b (broadcast s 2139095040#32)))
    (andi (addi b (broadcast s 2097152#32)) (broadcast s 2139095040#32)) (broadcast s 1132462080#32)
/-- At an index it is the field. -/
theorem vFieldOf_at (b : IVec s 32) (i : s.Idx) : vFieldOf b i = fieldOf (b i) := rfl
/-- The exponent field of an array of magnitudes, at an index. -/
theorem vField_at (a : FVec Ideal s .f32) (i : s.Idx) : vFieldOf (vTop a) i = kField (a i) := by
  rw [vFieldOf_at, vTop_at]; rfl

end

/-! ## The reference's exponent -/

/-- The magnitude over 448. -/
def quot (a : EReal) : EReal := Ideal.div a (Ideal.ofBits .f32 0x43E00000#32)
/-- The reference's exponent. -/
def rExp (a : EReal) : EReal :=
  Scalar.select
    (IntOp.andi (Ideal.cmp .oge (quot a) (Ideal.ofBits .f32 0x00800000#32)) (Ideal.cmp .olt (quot a) (Ideal.ofBits .f32 0x7F800000#32)))
    (min (Ideal.liftRound Int.floor (Ideal.div (Ideal.log (quot a)) (Ideal.log (Ideal.ofBits .f32 0x40000000#32)))
      + Ideal.ofBits .f32 0x3F800000#32) (Ideal.ofBits .f32 0x42F00000#32))
    (Ideal.ofBits .f32 0x00000000#32)
/-- Two to a power, as the reference takes it. -/
def rPow (e : EReal) : EReal := Ideal.pow (Ideal.ofBits .f32 0x40000000#32) e
/-- The reference's scale. -/
def rScale (a : EReal) : EReal := rPow (rExp a)
/-- The reference's reciprocal of it. -/
def rInv (a : EReal) : EReal := rPow (Ideal.ofBits .f32 0x00000000#32 - rExp a)

/-! ## Constants -/

/-- A constant given by its ten top bits. -/
theorem const_norm (w : BitVec 32) (x r : ℕ) (hw : w = BitVec.ofNat 32 ((4 * x + r) * 2097152)) (h0 : 0 < x) (hx : x < 255) (hr : r < 4) :
    Ideal.ofBits .f32 w = ((((4 + r : ℕ) : ℝ) * (2 : ℝ) ^ ((x : ℤ) - 129) : ℝ) : EReal) := by
  rw [hw]; exact val_norm x r h0 hx hr

/-- The word of 448. -/
theorem c448 : Ideal.ofBits .f32 0x43E00000#32 = ((448 : ℝ) : EReal) := by
  rw [const_norm _ 135 3 (by decide) (by norm_num) (by norm_num) (by norm_num)]; norm_num
/-- The word of 2. -/
theorem cTwo : Ideal.ofBits .f32 0x40000000#32 = ((2 : ℝ) : EReal) := by
  rw [const_norm _ 128 0 (by decide) (by norm_num) (by norm_num) (by norm_num)]; norm_num
/-- The word of 1. -/
theorem cOne : Ideal.ofBits .f32 0x3F800000#32 = ((1 : ℝ) : EReal) := by
  rw [const_norm _ 127 0 (by decide) (by norm_num) (by norm_num) (by norm_num)]; norm_num
/-- The word of the least normal float, 2 to the power -126. -/
theorem cTiny : Ideal.ofBits .f32 0x00800000#32 = (((2 : ℝ) ^ (-126 : ℤ) : ℝ) : EReal) := by
  rw [const_norm _ 1 0 (by decide) (by norm_num) (by norm_num) (by norm_num)]; norm_num
/-- The word of infinity. -/
theorem cInf : Ideal.ofBits .f32 0x7F800000#32 = ⊤ := val_inf
/-- The word of 0. -/
theorem cZero : Ideal.ofBits .f32 0x00000000#32 = ((0 : ℝ) : EReal) := by
  have := val_low 0 (by norm_num)
  rw [val] at this; simpa using this
/-- The word of 120. -/
theorem c120 : Ideal.ofBits .f32 0x42F00000#32 = ((120 : ℝ) : EReal) := by
  rw [ofBits_fields _ 133 0x700000 (by decide) (by decide) (by decide)]
  norm_num

/-! ## The kernels' exponent in closed form -/

/-- The field from the ten bits, one case at a time. -/
theorem fieldOf_eq : ∀ c : Fin 1024, fieldOf (BitVec.ofNat 32 (c.val * 2097152))
    = BitVec.ofNat 32 ((if 39 ≤ c.val ∧ c.val < 1020 then (c.val + 1) / 4 else 135) * 8388608) := by decide +kernel

/-- The scale's word from the field. -/
theorem word_eq : ∀ f : Fin 256, 10 ≤ f.val → IntOp.subi (BitVec.ofNat 32 (f.val * 8388608)) 67108864#32
    = BitVec.ofNat 32 ((4 * (f.val - 8) + 0) * 2097152) := by decide +kernel

/-- The reciprocal's word from the field. -/
theorem inv_word_eq : ∀ f : Fin 256, 10 ≤ f.val → IntOp.subi 2197815296#32 (BitVec.ofNat 32 (f.val * 8388608))
    = BitVec.ofNat 32 ((4 * (262 - f.val) + 0) * 2097152) := by decide +kernel

/-- The biased exponent from the scale's word, with the integer the reference reaches it by. -/
theorem exp_eq : ∀ f : Fin 256, 10 ≤ f.val →
    IntOp.shrsi .vector (BitVec.ofNat 32 ((4 * (f.val - 8) + 0) * 2097152)) 23#32
      = BitVec.ofInt 32 ((f.val : ℤ) - 135) + 127#32 := by decide +kernel

/-! ## The two exponents agree -/

/-- A power of two below a real bounds its logarithm. -/
theorem le_log (q : ℝ) (n : ℤ) (h1 : (2 : ℝ) ^ n ≤ q) : (n : ℝ) ≤ Real.log q * (1 / Real.log 2) := by
  have hl : 0 < Real.log 2 := Real.log_pos (by norm_num)
  rw [mul_one_div, le_div_iff₀ hl, ← Real.log_zpow]
  exact Real.log_le_log (zpow_pos (by norm_num) n) h1

/-- The exponent of a real quotient between two powers of two. -/
theorem floor_log (q : ℝ) (n : ℤ) (h1 : (2 : ℝ) ^ n ≤ q) (h2 : q < (2 : ℝ) ^ (n + 1)) :
    ⌊Real.log q * (1 / Real.log 2)⌋ = n := by
  have hq : 0 < q := lt_of_lt_of_le (zpow_pos (by norm_num) n) h1
  have hl : 0 < Real.log 2 := Real.log_pos (by norm_num)
  rw [Int.floor_eq_iff]
  refine ⟨le_log q n h1, ?_⟩
  rw [mul_one_div, div_lt_iff₀ hl, show ((n : ℝ) + 1) = ((n + 1 : ℤ) : ℝ) by push_cast; ring, ← Real.log_zpow]
  exact Real.log_lt_log hq h2

/-- The reference's exponent of a positive magnitude whose quotient is normal. -/
theorem rExp_normal (a : ℝ) (h : (2 : ℝ) ^ (-126 : ℤ) ≤ a / 448) :
    rExp a = ((min ((⌊Real.log (a / 448) * (1 / Real.log 2)⌋ : ℝ) + 1) 120 : ℝ) : EReal) := by
  have hpos : 0 < a / 448 := lt_of_lt_of_le (by positivity) h
  have hq : quot a = ((a / 448 : ℝ) : EReal) := by
    rw [quot, c448, Ideal.div_coe (by norm_num), ← EReal.coe_mul]; congr 1; ring
  have hl : Real.log 2 ≠ 0 := (Real.log_pos (by norm_num)).ne'
  unfold rExp
  rw [hq, cTiny, cInf, cTwo, cOne, c120, Ideal.log_coe, if_neg (not_le.mpr hpos), Ideal.log_coe, if_neg (by norm_num),
    Ideal.div_coe hl, ← EReal.coe_mul, Ideal.liftRound_coe]
  have hc : IntOp.andi (Ideal.cmp .oge ((a / 448 : ℝ) : EReal) (((2 : ℝ) ^ (-126 : ℤ) : ℝ) : EReal))
      (Ideal.cmp .olt ((a / 448 : ℝ) : EReal) ⊤) = 1#1 := by
    simp only [Ideal.cmp, EReal.coe_le_coe_iff, h, EReal.coe_lt_top, decide_true]; decide
  rw [hc, Scalar.select, if_pos (by decide : (1#1 : BitVec 1) = 1), ← EReal.coe_add]
  exact (EReal.coe_strictMono.monotone.map_min).symm

/-- The reference's exponent of a magnitude whose quotient is below the normal range: zero. -/
theorem rExp_small (a : ℝ) (h : a / 448 < (2 : ℝ) ^ (-126 : ℤ)) : rExp a = ((0 : ℝ) : EReal) := by
  have hq : quot a = ((a / 448 : ℝ) : EReal) := by
    rw [quot, c448, Ideal.div_coe (by norm_num), ← EReal.coe_mul]; congr 1; ring
  have hc : IntOp.andi (Ideal.cmp .oge (quot a) (Ideal.ofBits .f32 0x00800000#32))
      (Ideal.cmp .olt (quot a) (Ideal.ofBits .f32 0x7F800000#32)) = 0#1 := by
    rw [hq, cTiny, cInf]
    simp only [Ideal.cmp, EReal.coe_le_coe_iff, not_le.mpr h, EReal.coe_lt_top, decide_true, decide_false]; decide
  rw [rExp, hc, Scalar.select, if_neg (by decide), cZero]

/-- The reference's exponent of an infinite magnitude: zero. -/
theorem rExp_top : rExp ⊤ = ((0 : ℝ) : EReal) := by
  have hq : quot ⊤ = ⊤ := by
    rw [quot, c448, Ideal.div_coe (by norm_num), EReal.top_mul_coe_of_pos (by norm_num)]
  have hc : IntOp.andi (Ideal.cmp .oge (quot ⊤) (Ideal.ofBits .f32 0x00800000#32))
      (Ideal.cmp .olt (quot ⊤) (Ideal.ofBits .f32 0x7F800000#32)) = 0#1 := by
    rw [hq, cInf]
    simp only [Ideal.cmp, le_top, lt_self_iff_false, decide_true, decide_false]; decide
  rw [rExp, hc, Scalar.select, if_neg (by decide), cZero]

/-- The word picked by the kernels and the exponent taken by the reference name the same power of two. -/
theorem field_spec (a : EReal) (h0 : 0 ≤ a) :
    ∃ f : Fin 256, 10 ≤ f.val ∧ kField a = BitVec.ofNat 32 (f.val * 8388608) ∧
      rExp a = ((((f.val : ℤ) - 135 : ℤ) : ℝ) : EReal) := by
  induction a with
  | bot => exact absurd h0 (by simp)
  | top =>
    refine ⟨⟨135, by norm_num⟩, by norm_num, ?_, by rw [rExp_top]; norm_num⟩
    rw [kField, kTop_eq, top_inf]; exact fieldOf_eq ⟨1023, by norm_num⟩
  | coe a =>
    obtain ⟨c, hc, hlt, hle, hnx⟩ := top_spec a h0 (EReal.coe_lt_top a)
    have hk : kField a = BitVec.ofNat 32 ((if 39 ≤ c ∧ c < 1020 then (c + 1) / 4 else 135) * 8388608) := by
      rw [kField, kTop_eq, hc]; exact fieldOf_eq ⟨c, by omega⟩
    by_cases h39 : 39 ≤ c
    · rw [if_pos ⟨h39, hlt⟩] at hk
      refine ⟨⟨(c + 1) / 4, by omega⟩, by show 10 ≤ (c + 1) / 4; omega, hk, ?_⟩
      -- the lower bound: c + 1 = 4 f + r
      obtain ⟨f, r, hr, hf⟩ : ∃ f r, r < 4 ∧ c + 1 = 4 * f + r := ⟨(c + 1) / 4, (c + 1) % 4, by omega, by omega⟩
      have ef : (c + 1) / 4 = f := by omega
      show rExp a = (((((c + 1) / 4 : ℕ) : ℤ) - 135 : ℤ) : ℝ)
      rw [ef]
      have lo : 7 * (2 : ℝ) ^ ((f : ℤ) - 130) ≤ a := by
        rcases Nat.eq_zero_or_pos r with r0 | rp
        · have ec : c = 4 * (f - 1) + 3 := by omega
          rw [ec, val_norm _ _ (by omega) (by omega) (by omega), EReal.coe_le_coe_iff] at hle
          rw [show ((f - 1 : ℕ) : ℤ) - 129 = (f : ℤ) - 130 by omega] at hle
          norm_num at hle; exact hle
        · have ec : c = 4 * f + (r - 1) := by omega
          rw [ec, val_norm _ _ (by omega) (by omega) (by omega), EReal.coe_le_coe_iff] at hle
          refine le_trans ?_ hle
          rw [show (f : ℤ) - 129 = (f : ℤ) - 130 + 1 by ring, zpow_add_one₀ (by norm_num)]
          have hp : (0 : ℝ) < 2 ^ ((f : ℤ) - 130) := zpow_pos (by norm_num) _
          have h4 : (4 : ℝ) ≤ ((4 + (r - 1) : ℕ) : ℝ) := by exact_mod_cast (by omega : 4 ≤ 4 + (r - 1))
          nlinarith
      have h448 : (2 : ℝ) ^ ((f : ℤ) - 136) ≤ a / 448 := by
        rw [le_div_iff₀ (by norm_num)]
        refine le_trans (le_of_eq ?_) lo
        rw [show (f : ℤ) - 130 = (f : ℤ) - 136 + 6 by ring, zpow_add₀ (by norm_num)]; norm_num; ring
      have hn : (2 : ℝ) ^ (-126 : ℤ) ≤ a / 448 := le_trans (zpow_le_zpow_right₀ (by norm_num) (by omega)) h448
      rw [rExp_normal a hn]
      congr 1
      show min _ _ = (((f : ℤ) - 135 : ℤ) : ℝ)
      by_cases h255 : f < 255
      · have hi : a < 7 * (2 : ℝ) ^ ((f : ℤ) - 129) := by
          rw [hf, val_norm _ _ (by omega) h255 hr, EReal.coe_lt_coe_iff] at hnx
          refine lt_of_lt_of_le hnx ?_
          have h7 : ((4 + r : ℕ) : ℝ) ≤ 7 := by exact_mod_cast (by omega : 4 + r ≤ 7)
          exact mul_le_mul_of_nonneg_right h7 (by positivity)
        have h448' : a / 448 < (2 : ℝ) ^ ((f : ℤ) - 136 + 1) := by
          rw [div_lt_iff₀ (by norm_num)]
          refine lt_of_lt_of_le hi (le_of_eq ?_)
          rw [show (f : ℤ) - 129 = ((f : ℤ) - 136 + 1) + 6 by ring, zpow_add₀ (by norm_num)]; norm_num; ring
        rw [floor_log _ _ h448 h448']
        have hfr : (f : ℝ) ≤ 254 := by exact_mod_cast (by omega : f ≤ 254)
        rw [min_eq_left (by push_cast; linarith)]
        push_cast; ring
      · have f255 : f = 255 := by omega
        subst f255
        have : (119 : ℤ) ≤ ⌊Real.log (a / 448) * (1 / Real.log 2)⌋ := by
          rw [Int.le_floor]
          exact le_log _ 119 (le_trans (by norm_num) h448)
        have h' : (119 : ℝ) ≤ (⌊Real.log (a / 448) * (1 / Real.log 2)⌋ : ℝ) := by exact_mod_cast this
        rw [min_eq_right (by linarith)]
        norm_num
    · rw [if_neg (by omega)] at hk
      refine ⟨⟨135, by norm_num⟩, by norm_num, hk, ?_⟩
      have hb : a < 7 * (2 : ℝ) ^ (-120 : ℤ) := by
        rcases Nat.lt_or_ge (c + 1) 4 with hs | hs
        · rw [val_low _ hs, EReal.coe_lt_coe_iff] at hnx
          refine lt_trans hnx ?_
          have : ((c + 1 : ℕ) : ℝ) < 4 := by exact_mod_cast hs
          have hp : (0 : ℝ) < 2 ^ (-128 : ℤ) := by positivity
          have : ((c + 1 : ℕ) : ℝ) * 2 ^ (-128 : ℤ) < 4 * 2 ^ (-128 : ℤ) := mul_lt_mul_of_pos_right this hp
          refine lt_trans this (by norm_num)
        · obtain ⟨x, r, hr, hx⟩ : ∃ x r, r < 4 ∧ c + 1 = 4 * x + r := ⟨(c + 1) / 4, (c + 1) % 4, by omega, by omega⟩
          rw [hx, val_norm _ _ (by omega) (by omega) hr, EReal.coe_lt_coe_iff] at hnx
          refine lt_of_lt_of_le hnx ?_
          have h7 : ((4 + r : ℕ) : ℝ) ≤ 7 := by exact_mod_cast (by omega : 4 + r ≤ 7)
          exact mul_le_mul h7 (zpow_le_zpow_right₀ (by norm_num) (by omega)) (by positivity) (by norm_num)
      rw [rExp_small a ?_]
      · norm_num
      · rw [div_lt_iff₀ (by norm_num)]
        refine lt_of_lt_of_le hb (by norm_num)

/-- A whole power of two, as the reference takes it. -/
theorem rPow_int (n : ℤ) : rPow (((n : ℝ) : ℝ) : EReal) = (((2 : ℝ) ^ n : ℝ) : EReal) := by
  rw [rPow, cTwo, Ideal.pow_coe_coe]
  congr 1
  exact Real.rpow_intCast 2 n

/-- The two scales are equal. -/
theorem scale_eq (a : EReal) (h0 : 0 ≤ a) : kScale a = rScale a := by
  obtain ⟨f, hf, hk, hr⟩ := field_spec a h0
  rw [kScale, kWord, hk, word_eq f hf, const_norm _ (f.val - 8) 0 rfl (by omega) (by omega) (by omega), rScale, hr, rPow_int]
  congr 1
  rw [show ((f.val : ℤ) - 135) = ((f.val - 8 : ℕ) : ℤ) - 129 + 2 by omega, zpow_add₀ (by norm_num)]
  push_cast; ring

/-- The two reciprocals are equal. -/
theorem inv_eq (a : EReal) (h0 : 0 ≤ a) : kInv a = rInv a := by
  obtain ⟨f, hf, hk, hr⟩ := field_spec a h0
  rw [kInv, hk, inv_word_eq f hf, const_norm _ (262 - f.val) 0 rfl (by omega) (by omega) (by omega), rInv, hr, cZero,
    ← EReal.coe_sub, show ((0 : ℝ) - (((f.val : ℤ) - 135 : ℤ) : ℝ)) = ((135 - (f.val : ℤ) : ℤ) : ℝ) by push_cast; ring, rPow_int]
  congr 1
  rw [show (135 - (f.val : ℤ)) = ((262 - f.val : ℕ) : ℤ) - 129 + 2 by omega, zpow_add₀ (by norm_num)]
  push_cast; ring

/-- The two biased exponents are equal. -/
theorem exp8_eq (a : EReal) (h0 : 0 ≤ a) : kExp a = IntOp.addi (Ideal.fptosi 32 (rExp a)) 127#32 := by
  obtain ⟨f, hf, hk, hr⟩ := field_spec a h0
  rw [kExp, kWord, hk, word_eq f hf, exp_eq f hf, hr, Ideal.fptosi, Ideal.toIntClamped_coe]
  have e1 : ⌊(((f.val : ℤ) - 135 : ℤ) : ℝ)⌋ = (f.val : ℤ) - 135 := Int.floor_intCast _
  have e2 : ⌈(((f.val : ℤ) - 135 : ℤ) : ℝ)⌉ = (f.val : ℤ) - 135 := Int.ceil_intCast _
  rw [e1, e2, ite_self, min_eq_right (by norm_num; omega), max_eq_right (by norm_num; omega)]
  rfl

end Cert.Mx

end
-- ==== Proof.Mx.Quant.lean ====
/- The quantiser of one row of 6144 values, as the reference states it: a scale for every group of 32, the codes, the values they
   stand for and the stored exponents. -/
module

public import proofs.«01_k».proof.Proof.Mx.Exponent
public import Idealize.ShloMosaic.Lib.Pointwise.Index

@[expose] public section

noncomputable section

namespace Cert.Mx

open Idealize.ShloMosaic

/-- A magnitude. -/
def mag (x : EReal) : EReal := max x (-x)

/-- A magnitude is not negative. -/
theorem mag_nonneg (x : EReal) : 0 ≤ mag x := by
  rcases le_total 0 x with h | h
  · exact le_max_of_le_left h
  · exact le_max_of_le_right (by simpa using EReal.neg_le_neg_iff.mpr h)

/-- The largest of some values, started from the word of minus infinity. -/
def largest {n : ℕ} (f : Fin n → EReal) : EReal := Finset.univ.fold max (Ideal.ofBits .f32 0xFF800000#32) f

/-- It is at most `c` when the start and every value are. -/
theorem largest_le {n : ℕ} (f : Fin n → EReal) (c : EReal) :
    largest f ≤ c ↔ Ideal.ofBits .f32 0xFF800000#32 ≤ c ∧ ∀ i, f i ≤ c := by
  unfold largest
  rw [Finset.fold_max_le]
  simp

/-- Two families with the same upper bounds have the same largest value. -/
theorem largest_congr {n m : ℕ} (f : Fin n → EReal) (g : Fin m → EReal) (h : ∀ c, (∀ i, f i ≤ c) ↔ ∀ j, g j ≤ c) :
    largest f = largest g := by
  apply le_antisymm
  · rw [largest_le]
    have := (largest_le g (largest g)).mp le_rfl
    exact ⟨this.1, (h _).mpr this.2⟩
  · rw [largest_le]
    have := (largest_le f (largest f)).mp le_rfl
    exact ⟨this.1, (h _).mp this.2⟩

/-- The largest of some magnitudes is not negative. -/
theorem largest_nonneg {n : ℕ} (f : Fin (n + 1) → EReal) (h : 0 ≤ f 0) : 0 ≤ largest f :=
  le_trans h (((largest_le f (largest f)).mp le_rfl).2 0)

/-- The largest magnitude of group `b` of a row. -/
def group (x : Fin 6144 → EReal) (b : Fin 192) : EReal :=
  largest fun j : Fin 32 => mag (x ⟨32 * b.val + j.val, by have := b.isLt; have := j.isLt; omega⟩)

/-- It is not negative. -/
theorem group_nonneg (x : Fin 6144 → EReal) (b : Fin 192) : 0 ≤ group x b := largest_nonneg _ (mag_nonneg _)

/-- The group of an entry of a row. -/
def grp (k : Fin 6144) : Fin 192 := ⟨k.val / 32, by have := k.isLt; omega⟩

/-- The clipping to the range of the codes. -/
def clip (z : EReal) : EReal := min (Ideal.ofBits .f32 0x43E00000#32) (max (Ideal.ofBits .f32 0xC3E00000#32) z)

/-- The code of an entry. -/
def code (x : Fin 6144 → EReal) (k : Fin 6144) : EReal := clip (x k * rInv (group x (grp k)))
/-- The value it stands for. -/
def deq (x : Fin 6144 → EReal) (k : Fin 6144) : EReal := code x k * rScale (group x (grp k))
/-- The stored exponent of a group. -/
def stored (x : Fin 6144 → EReal) (b : Fin 192) : BitVec 8 :=
  (IntOp.addi (Ideal.fptosi 32 (rExp (group x b))) 127#32).setWidth 8

/-! ## The results -/

/-- A row of an array of rows of 6144. -/
def row {n : ℕ} (W : (⟨2, ![n, 6144]⟩ : Shape).Idx → EReal) (o : Fin n) : Fin 6144 → EReal := fun k => W (ix2 o k)

/-- The codes of w. -/
def wCodes {n : ℕ} (W : (⟨2, ![n, 6144]⟩ : Shape).Idx → EReal) : (⟨2, ![n, 6144]⟩ : Shape).Idx → EReal := fun y =>
  code (row W (y 0)) (y 1)
/-- The stored exponents of w. -/
def wStored {n : ℕ} (W : (⟨2, ![n, 6144]⟩ : Shape).Idx → EReal) : (⟨2, ![n, 192]⟩ : Shape).Idx → BitVec 8 := fun y =>
  stored (row W (y 0)) (y 1)
/-- The product of x, given by codes and row scales, with w as its codes stand for it. -/
def product {r n : ℕ} (C : (⟨2, ![r, 6144]⟩ : Shape).Idx → EReal) (S : (⟨2, ![r, 128]⟩ : Shape).Idx → EReal)
    (W : (⟨2, ![n, 6144]⟩ : Shape).Idx → EReal) : (⟨2, ![r, n]⟩ : Shape).Idx → EReal := fun y =>
  (∑ k : Fin 6144, C (ix2 (y 0) k) * deq (row W (y 1)) k) * S (ix2 (y 0) 0)

/-- The largest magnitude of a row. -/
def amax (x : Fin 6144 → EReal) : EReal := largest fun k : Fin 6144 => mag (x k)

/-- It is not negative. -/
theorem amax_nonneg (x : Fin 6144 → EReal) : 0 ≤ amax x := largest_nonneg (n := 6143) _ (mag_nonneg _)

/-- The codes of x: one scale for the whole row. -/
def xCodes {n : ℕ} (X : (⟨2, ![n, 6144]⟩ : Shape).Idx → EReal) : (⟨2, ![n, 6144]⟩ : Shape).Idx → EReal := fun y =>
  clip (X y * rInv (amax (row X (y 0))))
/-- The scales of x, each written 128 times. -/
def xScales {n : ℕ} (X : (⟨2, ![n, 6144]⟩ : Shape).Idx → EReal) : (⟨2, ![n, 128]⟩ : Shape).Idx → EReal := fun y =>
  rScale (amax (row X (y 0)))

end Cert.Mx

end
-- ==== Proof.Mm.Ideal.lean ====
/- One grid point of the matrix-product kernel over the extended reals: what it makes of its 256 rows of w is what the
   reference's quantiser makes of each row. -/
module

public import proofs.«01_k».proof.Proof.Mm.Block
public import proofs.«01_k».proof.Proof.Mx.Quant
public import Idealize.ShloMosaic.PureOps.Ideal.Laws
public import Idealize.ShloMosaic.Lib.Pointwise.Tactic
public import Idealize.ShloMosaic.Lib.Pointwise.Reshape

@[expose] public section

noncomputable section

namespace Cert.KernelIdeal.Gen

open Idealize.ShloMosaic Idealize.ShloMosaic.TcCoe Idealize.SL.Sem
open Cert.Mx (largest mag kField kWord kScale kInv kExp vFieldOf vTop clip code deq stored group grp)

/-! ## One tile -/

/-- The largest magnitude of a group of a tile: of 32 columns of the row. -/
theorem tileMax_at (v : Vec Ideal S256x256 .bf16) (g : Fin 8) (o : Fin 256) :
    tileMax v (ix2 g o) = largest fun j : Fin 32 => mag (v (ix2 o ⟨32 * g.val + j.val, by omega⟩)) := by
  unfold tileMax k0_pay31 k0_pay30
  dsimp only
  refine (Ideal.multiReduction_maximumf_single _ _ _ _ _ _).trans ?_
  refine Cert.Mx.largest_congr (n := 8) _ _ fun c => ?_
  have key : ∀ s : Fin 8, (reduces_S8x8x256_S8x256.lift (ix2 g o) s : S8x8x256.Idx) = ix3 g s o := by
    intro s; funext a; fin_cases a <;> rfl
  have at8 : ∀ s : Fin 8, ∀ X : FVec Ideal S8x8x256 .f32,
    (X ∘ reduces_S8x8x256_S8x256.lift (ix2 g o)) s = X (ix3 g s o) := fun s X => congrArg X (key s)
  have sw : ∀ X : FVec Ideal S8x8x256 .f32, (∀ s : Fin 8, (X ∘ reduces_S8x8x256_S8x256.lift (ix2 g o)) s ≤ c) ↔
      ∀ s : Fin 8, X (ix3 g s o) ≤ c := fun X => forall_congr' fun s => by rw [at8]
  refine (sw _).trans ?_
  pointwise
  have ab : ∀ x : EReal, FloatOps.absf (F := Ideal) (φ := .bf16) x = mag x := fun _ => rfl
  simp only [ab, max_le_iff]
  have mv : ∀ n m : Fin 256, n.val = m.val → mag (v (ix2 o m)) ≤ c → mag (v (ix2 o n)) ≤ c := fun n m e h => by
    rwa [Fin.ext e]
  constructor
  · intro h j
    obtain ⟨⟨a1, a2⟩, a3, a4⟩ := h ⟨j.val % 16 / 2, by omega⟩
    have hj := j.isLt
    rcases Nat.lt_or_ge j.val 16 with h16 | h16
    · rcases Nat.mod_two_eq_zero_or_one j.val with h2 | h2
      · exact mv _ _ (by dsimp only; omega) a1
      · exact mv _ _ (by dsimp only; omega) a3
    · rcases Nat.mod_two_eq_zero_or_one j.val with h2 | h2
      · exact mv _ _ (by dsimp only; omega) a2
      · exact mv _ _ (by dsimp only; omega) a4
  · intro h s
    have hs := s.isLt
    refine ⟨⟨mv _ _ ?_ (h ⟨2 * s.val, by omega⟩), mv _ _ ?_ (h ⟨16 + 2 * s.val, by omega⟩)⟩,
      mv _ _ ?_ (h ⟨2 * s.val + 1, by omega⟩), mv _ _ ?_ (h ⟨16 + 2 * s.val + 1, by omega⟩)⟩ <;> (dsimp only; omega)

/-- The exponent field of the groups. -/
theorem tileField_eq (v : Vec Ideal S256x256 .bf16) : tileField v = vFieldOf (vTop (tileMax v)) := rfl
/-- At a group. -/
theorem tileField_at (v : Vec Ideal S256x256 .bf16) (i : S8x256.Idx) : tileField v i = kField (tileMax v i) := by
  rw [tileField_eq, Cert.Mx.vField_at]
/-- The scale of a group. -/
theorem tileScale_at (v : Vec Ideal S256x256 .bf16) (i : S8x256.Idx) :
    k0_pay37 (k0_pay31 v) (k0_pay32 v) (k0_pay33 v) i = kScale (tileMax v i) := by
  change Ideal.ofBits .f32 (IntOp.subi (tileField v i) 67108864#32) = _
  rw [tileField_at]; rfl
/-- The reciprocal of the scale of a group. -/
theorem tileInv_at (v : Vec Ideal S256x256 .bf16) (i : S8x256.Idx) :
    k0_pay38 (k0_pay31 v) (k0_pay32 v) (k0_pay33 v) i = kInv (tileMax v i) := by
  change Ideal.ofBits .f32 (IntOp.subi 2197815296#32 (tileField v i)) = _
  rw [tileField_at]; rfl
/-- The stored exponent of a group. -/
theorem tileE8_at (v : Vec Ideal S256x256 .bf16) (i : S8x256.Idx) : tileE8 v i = kExp (tileMax v i) := by
  unfold tileE8 k0_pay42
  rw [shapeCast_self]
  change IntOp.shrsi .vector (IntOp.subi (tileField v i) 67108864#32) 23#32 = _
  rw [tileField_at]; rfl
/-- A code of a tile. -/
theorem tileCodes_at (v : Vec Ideal S256x256 .bf16) (o k : Fin 256) :
    tileCodes v (ix2 o k) = clip (v (ix2 o k) * kInv (tileMax v (ix2 ⟨k.val / 32, by omega⟩ o))) := by
  rw [← tileInv_at]
  unfold tileCodes k0_pay41 k0_pay39 k0_pay30
  pointwise
  rfl
/-- A dequantised value of a tile. -/
theorem tileDeq_at (v : Vec Ideal S256x256 .bf16) (k o : Fin 256) :
    tileDeq v (ix2 k o) = clip (v (ix2 o k) * kInv (tileMax v (ix2 ⟨k.val / 32, by omega⟩ o)))
      * kScale (tileMax v (ix2 ⟨k.val / 32, by omega⟩ o)) := by
  rw [← tileInv_at, ← tileScale_at]
  unfold tileDeq k0_pay40 k0_pay39 k0_pay30
  pointwise
  rfl

/-! ## A block -/

/-- An entry of a tile. -/
theorem tileAt_at {F : FTy → Type} [FloatOps F] (X : Vec F S256x6144 .bf16) (t : Fin 24) (o k : Fin 256) :
    tileAt X t (ix2 o k) = X (ix2 o ⟨256 * t.val + k.val, by omega⟩) := by
  unfold tileAt
  refine congrArg X (funext fun a => Fin.ext ?_)
  fin_cases a
  · show 0 + 1 * o.val = o.val; omega
  · show 256 * t.val + 1 * k.val = 256 * t.val + k.val; omega

/-- The largest magnitude of a group of a tile is that of the row's group. -/
theorem tileMax_group (X : Vec Ideal S256x6144 .bf16) (t : Fin 24) (g : Fin 8) (o : Fin 256) (b : Fin 192)
    (hb : b.val = 8 * t.val + g.val) : tileMax (tileAt X t) (ix2 g o) = group (fun i => X (ix2 o i)) b := by
  rw [tileMax_at, group]
  congr 1
  funext j
  rw [tileAt_at]
  have e : (⟨256 * t.val + (32 * g.val + j.val), by omega⟩ : Fin 6144) = ⟨32 * b.val + j.val, by omega⟩ :=
    Fin.ext (by dsimp only; omega)
  exact congrArg (fun n => mag (X (ix2 o n))) e

/-- A code of a block. -/
theorem codesBlk_at (X : Vec Ideal S256x6144 .bf16) (o : Fin 256) (k : Fin 6144) :
    codesBlk X (ix2 o k) = code (fun i => X (ix2 o i)) k := by
  unfold codesBlk
  change tileCodes (tileAt X ⟨k.val / 256, by omega⟩) (ix2 o ⟨k.val % 256, by omega⟩) = _
  have e : (⟨256 * (k.val / 256) + k.val % 256, by omega⟩ : Fin 6144) = k := Fin.ext (by dsimp only; omega)
  rw [tileCodes_at, tileMax_group X _ _ o (grp k) (by simp only [grp]; omega), tileAt_at, code]
  dsimp only
  rw [e, Cert.Mx.inv_eq _ (Cert.Mx.group_nonneg _ _)]

/-- A dequantised value of a block. -/
theorem deqBlk_at (X : Vec Ideal S256x6144 .bf16) (k : Fin 6144) (o : Fin 256) :
    deqBlk X (ix2 k o) = deq (fun i => X (ix2 o i)) k := by
  unfold deqBlk
  change tileDeq (tileAt X ⟨k.val / 256, by omega⟩) (ix2 ⟨k.val % 256, by omega⟩ o) = _
  have e : (⟨256 * (k.val / 256) + k.val % 256, by omega⟩ : Fin 6144) = k := Fin.ext (by dsimp only; omega)
  rw [tileDeq_at, tileMax_group X _ _ o (grp k) (by simp only [grp]; omega), tileAt_at, deq, code]
  dsimp only
  rw [e, Cert.Mx.inv_eq _ (Cert.Mx.group_nonneg _ _), Cert.Mx.scale_eq _ (Cert.Mx.group_nonneg _ _)]

/-- A stored exponent of a block. -/
theorem scalesBlk_at (X : Vec Ideal S256x6144 .bf16) (o : Fin 256) (b : Fin 192) :
    scalesBlk X (ix2 o b) = stored (fun i => X (ix2 o i)) b := by
  have h : expBlk X (ix2 (⟨b.val, by omega⟩ : Fin 256) o) = kExp (group (fun i => X (ix2 o i)) b) := by
    unfold expBlk
    refine (dif_pos (show b.val < 192 from b.isLt)).trans ?_
    change tileE8 (tileAt X ⟨b.val / 8, by omega⟩) (ix2 ⟨b.val % 8, by omega⟩ o) = _
    rw [tileE8_at, tileMax_group X _ _ o b (by dsimp only; omega)]
  rw [stored, ← Cert.Mx.exp8_eq _ (Cert.Mx.group_nonneg _ _), ← h]
  unfold scalesBlk k0_pay4
  pointwise

/-- A result of a block: the product of a row of x's codes with the dequantised row of w, times the row's scale. -/
theorem yBlk_at (C : Vec Ideal S1920x6144 .fp8e4m3) (S : Vec Ideal S1920x128 .f32) (X : Vec Ideal S256x6144 .bf16)
    (s : Fin 1920) (o : Fin 256) :
    yBlk (xbOf C) S X (ix2 s o) = (∑ k : Fin 6144, C (ix2 s k) * deq (fun i => X (ix2 o i)) k) * S (ix2 s 0) := by
  unfold yBlk k0_pay5
  pointwise
  simp only [deqBlk_at]
  rfl

end Cert.KernelIdeal.Gen

end
-- ==== Proof.Mm.Value.lean ====
/- The matrix-product kernel over the extended reals: its three result arrays after the run, and its run with them. -/
module

public import proofs.«01_k».proof.Proof.Mm.Frame
public import proofs.«01_k».proof.Proof.Mm.Ideal
public import Idealize.ShloMosaic.Lib.Pipeline.ValueKit

@[expose] public section

noncomputable section

namespace Cert.KernelIdeal.Gen

open Idealize.ShloMosaic Idealize.ShloMosaic.TcCoe Idealize.SL.Sem
open Cert.Mx (row wCodes wStored product)

variable (m : (ℓ : Loc nD τ sig) → Buf (Elt Ideal) ℓ) (ρ : Dev nD → PrngReg)

/-- The block of the codes of x is the whole array at every point, -/
theorem idx0 (t : Fin cfg0.N) : win0_0.index t = ![0, 0] := by revert t; decide +kernel
/-- and so is that of its scales. -/
theorem idx1 (t : Fin cfg0.N) : win0_1.index t = ![0, 0] := by revert t; decide +kernel
/-- The block of w is its `t`-th band of rows, -/
theorem idx2 (t : Fin cfg0.N) : win0_2.index t = ![t.val, 0] := by revert t; decide +kernel
/-- the block of the results the `t`-th band of columns, -/
theorem idx3 (t : Fin cfg0.N) : win0_3.index t = ![0, t.val] := by revert t; decide +kernel
/-- and the blocks of the codes and exponents the `t`-th bands of rows. -/
theorem idx4 (t : Fin cfg0.N) : win0_4.index t = ![t.val, 0] := by revert t; decide +kernel
/-- The block of scales of w that grid point `t` writes. -/
theorem idx5 (t : Fin cfg0.N) : win0_5.index t = ![t.val, 0] := by revert t; decide +kernel

/-- The row of the array that row `o` of the `t`-th band is. -/
def bandRow (t : Fin cfg0.N) (o : Fin 256) : Fin 10752 :=
  ⟨256 * t.val + o.val, by have := lt_of_lt_of_eq t.isLt (show cfg0.N = 42 from N_0); omega⟩

/-- The rows of the block of w are rows of w. -/
theorem block_row (c : Dev nD) (t : Fin cfg0.N) (o : Fin 256) :
    (fun i => iblk m c 2 t (ix2 o i) : Fin 6144 → EReal) = row (n := 10752) (m ((c : Thread nD τ).loc main_arg2)) (bandRow t o) := by
  funext i
  have e : (win0_2.blk t).view.emb (ix2 o i : S256x6144.Idx) = (ix2 (bandRow t o) i : S10752x6144.Idx) := by
    blk_ext [idx2, bandRow]
  blk_simp [iblk]
  exact congrArg (m ((c : Thread nD τ).loc main_arg2)) e

/-- The block of the codes of x is the array. -/
theorem block_codes (c : Dev nD) (t : Fin cfg0.N) :
    (iblk m c 0 t : Vec Ideal S1920x6144 .fp8e4m3) = m ((c : Thread nD τ).loc main_arg0) := by
  funext x
  have e : (win0_0.blk t).view.emb (x : S1920x6144.Idx) = x := by blk_ext [idx0]
  blk_simp [iblk]
  exact congrArg (m ((c : Thread nD τ).loc main_arg0)) e

/-- The block of the scales of x is the array. -/
theorem block_scales (c : Dev nD) (t : Fin cfg0.N) :
    (iblk m c 1 t : Vec Ideal S1920x128 .f32) = m ((c : Thread nD τ).loc main_arg1) := by
  funext x
  have e : (win0_1.blk t).view.emb (x : S1920x128.Idx) = x := by blk_ext [idx1]
  blk_simp [iblk]
  exact congrArg (m ((c : Thread nD τ).loc main_arg1)) e

/-- The array of codes after the run. -/
theorem final_codes (c : Dev nD) : (dats m 0 c).arrAt 4 cfg0.N = wCodes (n := 10752) (m ((c : Thread nD τ).loc main_arg2)) := by
  refine (dats m 0 c).arrAt_eq_of_covers 4 _ (by decide +kernel) fun t hf y => ?_
  blk_simp
  rw [after0_4]
  obtain ⟨o, k, rfl⟩ : ∃ (o : Fin 256) (k : Fin 6144), y = ix2 o k := ⟨y 0, y 1, eq_ix2 y⟩
  have e : (win0_4.blk t).view.emb (ix2 o k : S256x6144.Idx) = (ix2 (bandRow t o) k : S10752x6144.Idx) := by
    blk_ext [idx4, bandRow]
  refine (codesBlk_at _ o k).trans (Eq.trans ?_ (congrArg _ e).symm)
  rw [block_row]
  rfl

/-- The array of exponents after the run. -/
theorem final_stored (c : Dev nD) : (dats m 0 c).arrAt 5 cfg0.N = wStored (n := 10752) (m ((c : Thread nD τ).loc main_arg2)) := by
  refine (dats m 0 c).arrAt_eq_of_covers 5 _ (by decide +kernel) fun t hf y => ?_
  blk_simp
  rw [after0_5]
  obtain ⟨o, b, rfl⟩ : ∃ (o : Fin 256) (b : Fin 192), y = ix2 o b := ⟨y 0, y 1, eq_ix2 y⟩
  have e : (win0_5.blk t).view.emb (ix2 o b : S256x192.Idx) = (ix2 (bandRow t o) b : S10752x192.Idx) := by
    blk_ext [idx5, bandRow]
  refine (scalesBlk_at _ o b).trans (Eq.trans ?_ (congrArg _ e).symm)
  rw [block_row]
  rfl

/-- The array of results after the run. -/
theorem final_y (c : Dev nD) : (dats m 0 c).arrAt 3 cfg0.N
    = product (r := 1920) (n := 10752) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  obtain ⟨s, o, rfl⟩ : ∃ (s : Fin 1920) (o : Fin 256), y = ix2 s o := ⟨y 0, y 1, eq_ix2 y⟩
  have e : (win0_3.blk t).view.emb (ix2 s o : S1920x256.Idx) = (ix2 s (bandRow t o) : S1920x10752.Idx) := by
    blk_ext [idx3, bandRow]
  refine Eq.trans ?_ (congrArg _ e).symm
  unfold xbC
  refine (yBlk_at _ _ _ s o).trans ?_
  rw [block_row, block_codes, block_scales]
  unfold product
  rfl

/-- The run with its three results; the arguments end unchanged. -/
theorem run_value : θ_run (defs (F := Ideal)) (onTc (τ := τ) (main (F := Ideal))) ⟨m, fun _ => 0, ρ⟩ (fun r => ∀ c : Dev nD,
    r.2.mem ((c.tc : Thread nD τ).loc main_v0_0)
      = product (r := 1920) (n := 10752) (m ((c : Thread nD τ).loc main_arg0)) (m ((c : Thread nD τ).loc main_arg1))
          (m ((c : Thread nD τ).loc main_arg2))
    ∧ r.2.mem ((c.tc : Thread nD τ).loc main_v0_1) = wCodes (n := 10752) (m ((c : Thread nD τ).loc main_arg2))
    ∧ r.2.mem ((c.tc : Thread nD τ).loc main_v0_2) = wStored (n := 10752) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_main (F := Ideal) m ρ)
  exact ⟨(h.out_eq c 3).trans (final_y m c), (h.out_eq c 4).trans (final_codes m c), (h.out_eq c 5).trans (final_stored m c),
    (h.in_eq c 0 rfl).trans (A_eq m c 0), (h.in_eq c 1 rfl).trans (A_eq m c 1), (h.in_eq c 2 rfl).trans (A_eq m c 2)⟩

end Cert.KernelIdeal.Gen

end
-- ==== Proof.Ref.Value.lean ====
/- The reference of the matrix-product kernel over the extended reals: its three results, and its run with them. -/
module

public import proofs.«01_k».proof.Proof.Gen.ReferenceIdeal.Frame
public import proofs.«01_k».proof.Proof.Mx.Quant
public import Idealize.ShloMosaic.PureOps.Ideal.Laws
public import Idealize.ShloMosaic.Lib.Pointwise.Tactic
public import Idealize.ShloMosaic.Lib.Pointwise.Reshape
public import Idealize.ShloMosaic.Lib.Pipeline.ValueKit

@[expose] public section

noncomputable section

namespace Cert.ReferenceIdeal.Gen

open Idealize.ShloMosaic Idealize.ShloMosaic.TcCoe Idealize.SL.Sem
open Cert.Mx (largest mag rExp rPow rScale rInv clip code deq stored group grp row wCodes wStored product)

/-! ## The payloads at an index -/

/-- The exponent of a group. -/
theorem pay3_at (W : Vec Ideal S10752x6144 .bf16) (o : Fin 10752) (b : Fin 192) :
    k0_pay3 W (ix2 o b) = rExp (group (row (n := 10752) W o) b) := by
  have ha : multiReduction .maximumf [2] S10752x192 (absf (k0_pay2 W)) 0xFF800000#32 reduces_S10752x192x32_S10752x192 (.inl rfl) rfl
      (ix2 o b) = group (row (n := 10752) W o) b := by
    refine (Ideal.multiReduction_maximumf_single _ _ _ _ _ _).trans ?_
    refine Cert.Mx.largest_congr (n := 32) _ _ fun c => ?_
    have key : ∀ j : Fin 32, (reduces_S10752x192x32_S10752x192.lift (ix2 o b) j : S10752x192x32.Idx) = ix3 o b j := by
      intro s; funext a; fin_cases a <;> rfl
    refine forall_congr' fun j => ?_
    refine Eq.to_iff (congrArg (· ≤ c) ?_)
    refine (congrArg (absf (k0_pay2 W)) (key j)).trans ?_
    unfold k0_pay2
    pointwise
    refine congrArg (fun n => mag (W (ix2 o n))) (Fin.ext ?_)
    dsimp only; omega
  rw [← ha]
  rfl

/-- A code, in groups. -/
theorem pay4_at (W : Vec Ideal S10752x6144 .bf16) (o : Fin 10752) (b : Fin 192) (j : Fin 32) :
    k0_pay4 W (ix3 o b j) = clip (W (ix2 o ⟨32 * b.val + j.val, by omega⟩) * rInv (group (row (n := 10752) W o) b)) := by
  unfold k0_pay4 k0_pay2
  pointwise
  have z : (0 : EReal) = Ideal.ofBits .f32 0x00000000#32 := Cert.Mx.cZero.symm
  rw [pay3_at, z, show (⟨b.val * 32 + j.val, by omega⟩ : Fin 6144) = ⟨32 * b.val + j.val, by omega⟩ from Fin.ext (by dsimp only; omega)]
  rfl

/-- A code. -/
theorem pay5_at (W : Vec Ideal S10752x6144 .bf16) (o : Fin 10752) (k : Fin 6144) :
    k0_pay5 W (ix2 o k) = code (row (n := 10752) W o) k := by
  unfold k0_pay5
  pointwise
  rw [pay4_at, show (⟨32 * (k.val / 32) + k.val % 32, by omega⟩ : Fin 6144) = k from Fin.ext (by dsimp only; omega)]
  rfl

/-- A stored exponent. -/
theorem pay6_at (W : Vec Ideal S10752x6144 .bf16) (o : Fin 10752) (b : Fin 192) :
    k0_pay6 W (ix2 o b) = stored (row (n := 10752) W o) b := by
  rw [stored, ← pay3_at]
  rfl

/-- A result. -/
theorem pay1_at (C : Vec Ideal S1920x6144 .fp8e4m3) (S : Vec Ideal S1920x1 .f32) (W : Vec Ideal S10752x6144 .bf16)
    (s : Fin 1920) (o : Fin 10752) :
    k0_pay1 (k0_pay3 W) (k0_pay4 W) C S (ix2 s o)
      = (∑ k : Fin 6144, C (ix2 s k) * deq (row (n := 10752) W o) k) * S (ix2 s 0) := by
  unfold k0_pay1
  pointwise
  refine congrArg (· * S (ix2 s 0)) (Finset.sum_congr rfl fun k _ => congrArg (C (ix2 s k) * ·) ?_)
  rw [pay4_at, pay3_at, show (⟨32 * (k.val / 32) + k.val % 32, by omega⟩ : Fin 6144) = k from Fin.ext (by dsimp only; omega)]
  rfl

/-! ## The arrays after the run -/

variable (m : (ℓ : Loc nD τ sig) → Buf (Elt Ideal) ℓ) (ρ : Dev nD → PrngReg)

/-- The one block of every input is the whole array. -/
theorem idx : ∀ t : Fin cfg0.N, win0_0.index t = ![0, 0] ∧ win0_1.index t = ![0, 0] ∧ win0_2.index t = ![0, 0] :=
  (by decide +kernel : ∀ t : Fin grid0.N, _)

/-- The block of the codes of x is the array. -/
theorem iblk0 (c : Dev nD) : iblk m c 0 t0_0 = m ((c : Thread nD τ).loc main_arg0) := by
  blk_ext! [iblk, V, idx t0_0]

/-- The block of the scales of x is the array. -/
theorem iblk1 (c : Dev nD) : iblk m c 1 t0_0 = m ((c : Thread nD τ).loc main_arg1) := by
  blk_ext! [iblk, V, idx t0_0]

/-- The block of w is the array. -/
theorem iblk2 (c : Dev nD) : iblk m c 2 t0_0 = m ((c : Thread nD τ).loc main_arg2) := by
  blk_ext! [iblk, V, idx t0_0]

/-- The array of results after the run. -/
theorem final_y (c : Dev nD) : (dats m 0 c).arrAt 3 cfg0.N
    = product (r := 1920) (n := 10752) (m ((c : Thread nD τ).loc main_arg0)) (m ((c : Thread nD τ).loc main_arg1))
        (m ((c : Thread nD τ).loc main_arg2)) := by
  refine (dats m 0 c).arrAt_eq_of_after_last 3 t0_0 (by decide +kernel) _ fun j => ?_
  blk_simp
  rw [after0_3]
  unfold out0_3
  frame_out
  rw [iblk0, iblk1, iblk2]
  obtain ⟨s, o, rfl⟩ : ∃ (s : Fin 1920) (o : Fin 10752), j = ix2 s o := ⟨j 0, j 1, eq_ix2 j⟩
  have hS : ∀ S : Vec Ideal S1920x128 .f32, View.ld S r0_3 (ix2 s 0) = S (ix2 s 0) := fun S => by
    refine congrArg S (funext fun a => Fin.ext ?_)
    fin_cases a
    · show 0 + 1 * s.val = s.val; omega
    · rfl
  rw [pay1_at, hS]
  unfold product
  rfl

/-- The array of codes after the run. -/
theorem final_codes (c : Dev nD) : (dats m 0 c).arrAt 4 cfg0.N = wCodes (n := 10752) (m ((c : Thread nD τ).loc main_arg2)) := by
  refine (dats m 0 c).arrAt_eq_of_after_last 4 t0_0 (by decide +kernel) _ fun j => ?_
  blk_simp
  rw [after0_4]
  unfold out0_4
  frame_out
  rw [iblk2]
  obtain ⟨o, k, rfl⟩ : ∃ (o : Fin 10752) (k : Fin 6144), j = ix2 o k := ⟨j 0, j 1, eq_ix2 j⟩
  exact pay5_at _ o k

/-- The array of exponents after the run. -/
theorem final_stored (c : Dev nD) : (dats m 0 c).arrAt 5 cfg0.N = wStored (n := 10752) (m ((c : Thread nD τ).loc main_arg2)) := by
  refine (dats m 0 c).arrAt_eq_of_after_last 5 t0_0 (by decide +kernel) _ fun j => ?_
  blk_simp
  rw [after0_5]
  unfold out0_5
  frame_out
  rw [iblk2]
  obtain ⟨o, b, rfl⟩ : ∃ (o : Fin 10752) (b : Fin 192), j = ix2 o b := ⟨j 0, j 1, eq_ix2 j⟩
  exact pay6_at _ o b

/-- The run with its three results; the arguments end unchanged. -/
theorem run_value : θ_run (defs (F := Ideal)) (onTc (τ := τ) (main (F := Ideal))) ⟨m, fun _ => 0, ρ⟩ (fun r => ∀ c : Dev nD,
    r.2.mem ((c.tc : Thread nD τ).loc main_v0_0)
      = product (r := 1920) (n := 10752) (m ((c : Thread nD τ).loc main_arg0)) (m ((c : Thread nD τ).loc main_arg1))
          (m ((c : Thread nD τ).loc main_arg2))
    ∧ r.2.mem ((c.tc : Thread nD τ).loc main_v0_1) = wCodes (n := 10752) (m ((c : Thread nD τ).loc main_arg2))
    ∧ r.2.mem ((c.tc : Thread nD τ).loc main_v0_2) = wStored (n := 10752) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_main (F := Ideal) m ρ)
  exact ⟨(h.out_eq c 3).trans (final_y m c), (h.out_eq c 4).trans (final_codes m c), (h.out_eq c 5).trans (final_stored m c),
    (h.in_eq c 0 rfl).trans (A_eq m c 0), (h.in_eq c 1 rfl).trans (A_eq m c 1), (h.in_eq c 2 rfl).trans (A_eq m c 2)⟩

end Cert.ReferenceIdeal.Gen

end
-- ==== Proof.XqVal.Block.lean ====
/- One grid point of the kernel that quantises x, over the extended reals: what it makes of its 128 rows is what the
   reference makes of each row. -/
module

public import proofs.«01_k».proof.Proof.Gen.XqIdeal.Frame
public import proofs.«01_k».proof.Proof.Mx.Quant
public import Idealize.ShloMosaic.PureOps.Ideal.Laws
public import Idealize.ShloMosaic.Lib.Pointwise.Tactic
public import Idealize.ShloMosaic.Lib.Pointwise.Reshape
public import Idealize.ShloMosaic.Lib.Pipeline.ValueKit

@[expose] public section

noncomputable section

namespace Cert.XqIdeal.Gen

open Idealize.ShloMosaic Idealize.ShloMosaic.TcCoe Idealize.SL.Sem
open Cert.Mx (largest mag kField kScale kInv vFieldOf vTop clip amax row xCodes xScales rInv rScale)

/-! ## The largest magnitude of a row -/

/-- What a tile of 128 columns holds. -/
theorem tile_at (x0 : Vec Ideal S128x6144 .bf16) (off : ℕ) (inb) (s l : Fin 128) (h : off + l.val < 6144) :
    View.ld x0 (Rect.unit (s := S128x6144) ![0, off] S128x128.size inb) (ix2 s l) = x0 (ix2 s ⟨off + l.val, h⟩) := by
  refine congrArg x0 (funext fun a => Fin.ext ?_)
  fin_cases a
  · show 0 + 1 * s.val = s.val; omega
  · show off + 1 * l.val = off + l.val; omega

/-- An upper bound of the largest magnitude of a lane over the 48 tiles bounds each tile's. -/
theorem lane_le (x0 : Vec Ideal S128x6144 .bf16) (s l : Fin 128) (c : EReal) :
    k0_pay72 x0 (ix2 s l) ≤ c ↔ ∀ t : Fin 48, mag (x0 (ix2 s ⟨128 * t.val + l.val, by omega⟩)) ≤ c := by
  have ab : ∀ x : EReal, FloatOps.absf (F := Ideal) (φ := .bf16) x = mag x := fun _ => rfl
  have mx : ∀ (u v : FVec Ideal S128x128 .bf16) (i : S128x128.Idx), maximumf u v i = max (u i) (v i) := fun _ _ _ => rfl
  have av : ∀ (u : FVec Ideal S128x128 .bf16) (i : S128x128.Idx), absf u i = mag (u i) := fun _ _ => rfl
  unfold k0_pay72 k0_pay5 k0_pay4 k0_pay3 k0_pay2
  simp only [mx, av, max_le_iff]
  rw [show (∀ t : Fin 48, mag (x0 (ix2 s ⟨128 * t.val + l.val, by omega⟩)) ≤ c) ↔
    ∀ t : Fin 48, mag (View.ld x0 (Rect.unit (s := S128x6144) ![0, 128 * t.val] S128x128.size
      (by intro a; have := t.isLt; fin_cases a <;> simp [S128x6144, S128x128]; omega)) (ix2 s l)) ≤ c from
    forall_congr' fun t => by rw [tile_at x0 (128 * t.val) _ s l (by omega)]]
  constructor
  · intro h t
    exact match t with
    | ⟨0, _⟩ => h.1.1.1.1.1.1.1.1.1.1.1.1.1.1.1.1.1.1.1.1.1.1.1.1.1.1.1.1.1.1.1.1.1.1.1.1.1.1.1.1.1.1.1.1.1.1.1
    | ⟨1, _⟩ => h.1.1.1.1.1.1.1.1.1.1.1.1.1.1.1.1.1.1.1.1.1.1.1.1.1.1.1.1.1.1.1.1.1.1.1.1.1.1.1.1.1.1.1.1.1.1.2
    | ⟨2, _⟩ => h.1.1.1.1.1.1.1.1.1.1.1.1.1.1.1.1.1.1.1.1.1.1.1.1.1.1.1.1.1.1.1.1.1.1.1.1.1.1.1.1.1.1.1.1.1.2
    | ⟨3, _⟩ => h.1.1.1.1.1.1.1.1.1.1.1.1.1.1.1.1.1.1.1.1.1.1.1.1.1.1.1.1.1.1.1.1.1.1.1.1.1.1.1.1.1.1.1.1.2
    | ⟨4, _⟩ => h.1.1.1.1.1.1.1.1.1.1.1.1.1.1.1.1.1.1.1.1.1.1.1.1.1.1.1.1.1.1.1.1.1.1.1.1.1.1.1.1.1.1.1.2
    | ⟨5, _⟩ => h.1.1.1.1.1.1.1.1.1.1.1.1.1.1.1.1.1.1.1.1.1.1.1.1.1.1.1.1.1.1.1.1.1.1.1.1.1.1.1.1.1.1.2
    | ⟨6, _⟩ => h.1.1.1.1.1.1.1.1.1.1.1.1.1.1.1.1.1.1.1.1.1.1.1.1.1.1.1.1.1.1.1.1.1.1.1.1.1.1.1.1.1.2
    | ⟨7, _⟩ => h.1.1.1.1.1.1.1.1.1.1.1.1.1.1.1.1.1.1.1.1.1.1.1.1.1.1.1.1.1.1.1.1.1.1.1.1.1.1.1.1.2
    | ⟨8, _⟩ => h.1.1.1.1.1.1.1.1.1.1.1.1.1.1.1.1.1.1.1.1.1.1.1.1.1.1.1.1.1.1.1.1.1.1.1.1.1.1.1.2
    | ⟨9, _⟩ => h.1.1.1.1.1.1.1.1.1.1.1.1.1.1.1.1.1.1.1.1.1.1.1.1.1.1.1.1.1.1.1.1.1.1.1.1.1.1.2
    | ⟨10, _⟩ => h.1.1.1.1.1.1.1.1.1.1.1.1.1.1.1.1.1.1.1.1.1.1.1.1.1.1.1.1.1.1.1.1.1.1.1.1.1.2
    | ⟨11, _⟩ => h.1.1.1.1.1.1.1.1.1.1.1.1.1.1.1.1.1.1.1.1.1.1.1.1.1.1.1.1.1.1.1.1.1.1.1.1.2
    | ⟨12, _⟩ => h.1.1.1.1.1.1.1.1.1.1.1.1.1.1.1.1.1.1.1.1.1.1.1.1.1.1.1.1.1.1.1.1.1.1.1.2
    | ⟨13, _⟩ => h.1.1.1.1.1.1.1.1.1.1.1.1.1.1.1.1.1.1.1.1.1.1.1.1.1.1.1.1.1.1.1.1.1.1.2
    | ⟨14, _⟩ => h.1.1.1.1.1.1.1.1.1.1.1.1.1.1.1.1.1.1.1.1.1.1.1.1.1.1.1.1.1.1.1.1.1.2
    | ⟨15, _⟩ => h.1.1.1.1.1.1.1.1.1.1.1.1.1.1.1.1.1.1.1.1.1.1.1.1.1.1.1.1.1.1.1.1.2
    | ⟨16, _⟩ => h.1.1.1.1.1.1.1.1.1.1.1.1.1.1.1.1.1.1.1.1.1.1.1.1.1.1.1.1.1.1.1.2
    | ⟨17, _⟩ => h.1.1.1.1.1.1.1.1.1.1.1.1.1.1.1.1.1.1.1.1.1.1.1.1.1.1.1.1.1.1.2
    | ⟨18, _⟩ => h.1.1.1.1.1.1.1.1.1.1.1.1.1.1.1.1.1.1.1.1.1.1.1.1.1.1.1.1.1.2
    | ⟨19, _⟩ => h.1.1.1.1.1.1.1.1.1.1.1.1.1.1.1.1.1.1.1.1.1.1.1.1.1.1.1.1.2
    | ⟨20, _⟩ => h.1.1.1.1.1.1.1.1.1.1.1.1.1.1.1.1.1.1.1.1.1.1.1.1.1.1.1.2
    | ⟨21, _⟩ => h.1.1.1.1.1.1.1.1.1.1.1.1.1.1.1.1.1.1.1.1.1.1.1.1.1.1.2
    | ⟨22, _⟩ => h.1.1.1.1.1.1.1.1.1.1.1.1.1.1.1.1.1.1.1.1.1.1.1.1.1.2
    | ⟨23, _⟩ => h.1.1.1.1.1.1.1.1.1.1.1.1.1.1.1.1.1.1.1.1.1.1.1.1.2
    | ⟨24, _⟩ => h.1.1.1.1.1.1.1.1.1.1.1.1.1.1.1.1.1.1.1.1.1.1.1.2
    | ⟨25, _⟩ => h.1.1.1.1.1.1.1.1.1.1.1.1.1.1.1.1.1.1.1.1.1.1.2
    | ⟨26, _⟩ => h.1.1.1.1.1.1.1.1.1.1.1.1.1.1.1.1.1.1.1.1.1.2
    | ⟨27, _⟩ => h.1.1.1.1.1.1.1.1.1.1.1.1.1.1.1.1.1.1.1.1.2
    | ⟨28, _⟩ => h.1.1.1.1.1.1.1.1.1.1.1.1.1.1.1.1.1.1.1.2
    | ⟨29, _⟩ => h.1.1.1.1.1.1.1.1.1.1.1.1.1.1.1.1.1.1.2
    | ⟨30, _⟩ => h.1.1.1.1.1.1.1.1.1.1.1.1.1.1.1.1.1.2
    | ⟨31, _⟩ => h.1.1.1.1.1.1.1.1.1.1.1.1.1.1.1.1.2
    | ⟨32, _⟩ => h.1.1.1.1.1.1.1.1.1.1.1.1.1.1.1.2
    | ⟨33, _⟩ => h.1.1.1.1.1.1.1.1.1.1.1.1.1.1.2
    | ⟨34, _⟩ => h.1.1.1.1.1.1.1.1.1.1.1.1.1.2
    | ⟨35, _⟩ => h.1.1.1.1.1.1.1.1.1.1.1.1.2
    | ⟨36, _⟩ => h.1.1.1.1.1.1.1.1.1.1.1.2
    | ⟨37, _⟩ => h.1.1.1.1.1.1.1.1.1.1.2
    | ⟨38, _⟩ => h.1.1.1.1.1.1.1.1.1.2
    | ⟨39, _⟩ => h.1.1.1.1.1.1.1.1.2
    | ⟨40, _⟩ => h.1.1.1.1.1.1.1.2
    | ⟨41, _⟩ => h.1.1.1.1.1.1.2
    | ⟨42, _⟩ => h.1.1.1.1.1.2
    | ⟨43, _⟩ => h.1.1.1.1.2
    | ⟨44, _⟩ => h.1.1.1.2
    | ⟨45, _⟩ => h.1.1.2
    | ⟨46, _⟩ => h.1.2
    | ⟨47, _⟩ => h.2
    | ⟨n + 48, hn⟩ => absurd hn (by omega)
  · intro g
    exact ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨g 0, g 1⟩, g 2⟩, g 3⟩, g 4⟩, g 5⟩, g 6⟩, g 7⟩, g 8⟩, g 9⟩, g 10⟩, g 11⟩, g 12⟩, g 13⟩, g 14⟩, g 15⟩, g 16⟩, g 17⟩, g 18⟩, g 19⟩, g 20⟩, g 21⟩, g 22⟩, g 23⟩, g 24⟩, g 25⟩, g 26⟩, g 27⟩, g 28⟩, g 29⟩, g 30⟩, g 31⟩, g 32⟩, g 33⟩, g 34⟩, g 35⟩, g 36⟩, g 37⟩, g 38⟩, g 39⟩, g 40⟩, g 41⟩, g 42⟩, g 43⟩, g 44⟩, g 45⟩, g 46⟩, g 47⟩

/-- The largest magnitude of a row, in every lane. -/
theorem rowMax_at (x0 : Vec Ideal S128x6144 .bf16) (s l : Fin 128) : k0_pay73 x0 (ix2 s l) = amax (row (n := 128) x0 s) := by
  unfold k0_pay73 k0_pay6
  pointwise
  refine Cert.Mx.largest_congr (n := 128) (fun x => k0_pay72 x0 (ix2 s x)) _ fun c => ?_
  simp only [lane_le]
  constructor
  · intro h k
    have e : (⟨128 * (k.val / 128) + k.val % 128, by omega⟩ : Fin 6144) = k := Fin.ext (by dsimp only; omega)
    have := h ⟨k.val % 128, by omega⟩ ⟨k.val / 128, by omega⟩
    dsimp only at this
    rwa [e] at this
  · intro h j t
    exact h _

/-! ## The scale and its reciprocal -/

/-- The exponent field. -/
theorem field_eq (x0 : Vec Ideal S128x6144 .bf16) :
    k0_pay10 (k0_pay73 x0) (k0_pay74 x0) (k0_pay75 x0) (k0_pay76 x0) = vFieldOf (vTop (k0_pay73 x0)) := rfl

/-- The scale of a row. -/
theorem scale_at (x0 : Vec Ideal S128x6144 .bf16) (s l : Fin 128) :
    k0_pay11 (k0_pay73 x0) (k0_pay74 x0) (k0_pay75 x0) (k0_pay76 x0) (ix2 s l) = rScale (amax (row (n := 128) x0 s)) := by
  rw [← Cert.Mx.scale_eq _ (Cert.Mx.amax_nonneg _), ← rowMax_at x0 s l]
  unfold k0_pay11
  rw [field_eq]
  change Ideal.ofBits .f32 (IntOp.subi (vFieldOf (vTop (k0_pay73 x0)) (ix2 s l)) 67108864#32) = _
  rw [Cert.Mx.vField_at]; rfl

/-- The reciprocal of the scale of a row. -/
theorem inv_at (x0 : Vec Ideal S128x6144 .bf16) (s l : Fin 128) : k0_pay77 x0 (ix2 s l) = rInv (amax (row (n := 128) x0 s)) := by
  rw [← Cert.Mx.inv_eq _ (Cert.Mx.amax_nonneg _), ← rowMax_at x0 s l]
  unfold k0_pay77 k0_pay12
  rw [field_eq]
  change Ideal.ofBits .f32 (IntOp.subi 2197815296#32 (vFieldOf (vTop (k0_pay73 x0)) (ix2 s l))) = _
  rw [Cert.Mx.vField_at]; rfl

/-! ## The two blocks -/

/-- A tile of codes, from a tile of reciprocals and one of x. -/
def tileOf (I : FVec Ideal S128x128 .bf16) (v : Vec Ideal S128x128 .bf16) : FVec Ideal S128x128 .fp8e4m3 := fun x => clip (v x * I x)

/-! Every store's payload is that, the last store first. -/

/-- The store at column 6016. -/
theorem piece47 (I : FVec Ideal S128x128 .bf16) (v : Vec Ideal S128x128 .bf16) :
    k0_pay1 (k0_pay71 I v) = tileOf I v := rfl
/-- The store at column 5888. -/
theorem piece46 (I : FVec Ideal S128x128 .bf16) (v : Vec Ideal S128x128 .bf16) :
    k0_pay70 I v = tileOf I v := rfl
/-- The store at column 5760. -/
theorem piece45 (I : FVec Ideal S128x128 .bf16) (v : Vec Ideal S128x128 .bf16) :
    k0_pay69 I v = tileOf I v := rfl
/-- The store at column 5632. -/
theorem piece44 (I : FVec Ideal S128x128 .bf16) (v : Vec Ideal S128x128 .bf16) :
    k0_pay68 I v = tileOf I v := rfl
/-- The store at column 5504. -/
theorem piece43 (I : FVec Ideal S128x128 .bf16) (v : Vec Ideal S128x128 .bf16) :
    k0_pay67 (k0_pay66 I v) = tileOf I v := rfl
/-- The store at column 5376. -/
theorem piece42 (I : FVec Ideal S128x128 .bf16) (v : Vec Ideal S128x128 .bf16) :
    k0_pay65 I v = tileOf I v := rfl
/-- The store at column 5248. -/
theorem piece41 (I : FVec Ideal S128x128 .bf16) (v : Vec Ideal S128x128 .bf16) :
    k0_pay64 I v = tileOf I v := rfl
/-- The store at column 5120. -/
theorem piece40 (I : FVec Ideal S128x128 .bf16) (v : Vec Ideal S128x128 .bf16) :
    k0_pay63 I v = tileOf I v := rfl
/-- The store at column 4992. -/
theorem piece39 (I : FVec Ideal S128x128 .bf16) (v : Vec Ideal S128x128 .bf16) :
    k0_pay62 I v = tileOf I v := rfl
/-- The store at column 4864. -/
theorem piece38 (I : FVec Ideal S128x128 .bf16) (v : Vec Ideal S128x128 .bf16) :
    k0_pay61 I v = tileOf I v := rfl
/-- The store at column 4736. -/
theorem piece37 (I : FVec Ideal S128x128 .bf16) (v : Vec Ideal S128x128 .bf16) :
    k0_pay60 I v = tileOf I v := rfl
/-- The store at column 4608. -/
theorem piece36 (I : FVec Ideal S128x128 .bf16) (v : Vec Ideal S128x128 .bf16) :
    k0_pay59 (k0_pay57 I v) (k0_pay58 (F := Ideal)) = tileOf I v := rfl
/-- The store at column 4480. -/
theorem piece35 (I : FVec Ideal S128x128 .bf16) (v : Vec Ideal S128x128 .bf16) :
    k0_pay56 I v = tileOf I v := rfl
/-- The store at column 4352. -/
theorem piece34 (I : FVec Ideal S128x128 .bf16) (v : Vec Ideal S128x128 .bf16) :
    k0_pay55 I v = tileOf I v := rfl
/-- The store at column 4224. -/
theorem piece33 (I : FVec Ideal S128x128 .bf16) (v : Vec Ideal S128x128 .bf16) :
    k0_pay54 I v = tileOf I v := rfl
/-- The store at column 4096. -/
theorem piece32 (I : FVec Ideal S128x128 .bf16) (v : Vec Ideal S128x128 .bf16) :
    k0_pay53 I v = tileOf I v := rfl
/-- The store at column 3968. -/
theorem piece31 (I : FVec Ideal S128x128 .bf16) (v : Vec Ideal S128x128 .bf16) :
    k0_pay52 I v = tileOf I v := rfl
/-- The store at column 3840. -/
theorem piece30 (I : FVec Ideal S128x128 .bf16) (v : Vec Ideal S128x128 .bf16) :
    k0_pay51 I v = tileOf I v := rfl
/-- The store at column 3712. -/
theorem piece29 (I : FVec Ideal S128x128 .bf16) (v : Vec Ideal S128x128 .bf16) :
    k0_pay50 (k0_pay48 I v) (k0_pay49 (F := Ideal)) = tileOf I v := rfl
/-- The store at column 3584. -/
theorem piece28 (I : FVec Ideal S128x128 .bf16) (v : Vec Ideal S128x128 .bf16) :
    k0_pay47 I v = tileOf I v := rfl
/-- The store at column 3456. -/
theorem piece27 (I : FVec Ideal S128x128 .bf16) (v : Vec Ideal S128x128 .bf16) :
    k0_pay46 I v = tileOf I v := rfl
/-- The store at column 3328. -/
theorem piece26 (I : FVec Ideal S128x128 .bf16) (v : Vec Ideal S128x128 .bf16) :
    k0_pay45 I v = tileOf I v := rfl
/-- The store at column 3200. -/
theorem piece25 (I : FVec Ideal S128x128 .bf16) (v : Vec Ideal S128x128 .bf16) :
    k0_pay44 I v = tileOf I v := rfl
/-- The store at column 3072. -/
theorem piece24 (I : FVec Ideal S128x128 .bf16) (v : Vec Ideal S128x128 .bf16) :
    k0_pay43 I v = tileOf I v := rfl
/-- The store at column 2944. -/
theorem piece23 (I : FVec Ideal S128x128 .bf16) (v : Vec Ideal S128x128 .bf16) :
    k0_pay42 I v = tileOf I v := rfl
/-- The store at column 2816. -/
theorem piece22 (I : FVec Ideal S128x128 .bf16) (v : Vec Ideal S128x128 .bf16) :
    k0_pay41 (Scalar.ofBits .f32 0x43E00000#32) (k0_pay40 I v) = tileOf I v := rfl
/-- The store at column 2688. -/
theorem piece21 (I : FVec Ideal S128x128 .bf16) (v : Vec Ideal S128x128 .bf16) :
    k0_pay39 I v = tileOf I v := rfl
/-- The store at column 2560. -/
theorem piece20 (I : FVec Ideal S128x128 .bf16) (v : Vec Ideal S128x128 .bf16) :
    k0_pay38 I v = tileOf I v := rfl
/-- The store at column 2432. -/
theorem piece19 (I : FVec Ideal S128x128 .bf16) (v : Vec Ideal S128x128 .bf16) :
    k0_pay37 I v = tileOf I v := rfl
/-- The store at column 2304. -/
theorem piece18 (I : FVec Ideal S128x128 .bf16) (v : Vec Ideal S128x128 .bf16) :
    k0_pay36 I v = tileOf I v := rfl
/-- The store at column 2176. -/
theorem piece17 (I : FVec Ideal S128x128 .bf16) (v : Vec Ideal S128x128 .bf16) :
    k0_pay35 I v = tileOf I v := rfl
/-- The store at column 2048. -/
theorem piece16 (I : FVec Ideal S128x128 .bf16) (v : Vec Ideal S128x128 .bf16) :
    k0_pay34 I v = tileOf I v := rfl
/-- The store at column 1920. -/
theorem piece15 (I : FVec Ideal S128x128 .bf16) (v : Vec Ideal S128x128 .bf16) :
    k0_pay33 (k0_pay31 I v) (Scalar.ofBits .f32 0x43E00000#32) (k0_pay32 (F := Ideal)) = tileOf I v := rfl
/-- The store at column 1792. -/
theorem piece14 (I : FVec Ideal S128x128 .bf16) (v : Vec Ideal S128x128 .bf16) :
    k0_pay30 I v = tileOf I v := rfl
/-- The store at column 1664. -/
theorem piece13 (I : FVec Ideal S128x128 .bf16) (v : Vec Ideal S128x128 .bf16) :
    k0_pay29 I v = tileOf I v := rfl
/-- The store at column 1536. -/
theorem piece12 (I : FVec Ideal S128x128 .bf16) (v : Vec Ideal S128x128 .bf16) :
    k0_pay28 I v = tileOf I v := rfl
/-- The store at column 1408. -/
theorem piece11 (I : FVec Ideal S128x128 .bf16) (v : Vec Ideal S128x128 .bf16) :
    k0_pay27 I v = tileOf I v := rfl
/-- The store at column 1280. -/
theorem piece10 (I : FVec Ideal S128x128 .bf16) (v : Vec Ideal S128x128 .bf16) :
    k0_pay26 I v = tileOf I v := rfl
/-- The store at column 1152. -/
theorem piece9 (I : FVec Ideal S128x128 .bf16) (v : Vec Ideal S128x128 .bf16) :
    k0_pay25 I v = tileOf I v := rfl
/-- The store at column 1024. -/
theorem piece8 (I : FVec Ideal S128x128 .bf16) (v : Vec Ideal S128x128 .bf16) :
    k0_pay24 (k0_pay22 I v) (Scalar.ofBits .f32 0x43E00000#32) (k0_pay23 (F := Ideal)) = tileOf I v := rfl
/-- The store at column 896. -/
theorem piece7 (I : FVec Ideal S128x128 .bf16) (v : Vec Ideal S128x128 .bf16) :
    k0_pay21 I v = tileOf I v := rfl
/-- The store at column 768. -/
theorem piece6 (I : FVec Ideal S128x128 .bf16) (v : Vec Ideal S128x128 .bf16) :
    k0_pay20 I v = tileOf I v := rfl
/-- The store at column 640. -/
theorem piece5 (I : FVec Ideal S128x128 .bf16) (v : Vec Ideal S128x128 .bf16) :
    k0_pay19 I v = tileOf I v := rfl
/-- The store at column 512. -/
theorem piece4 (I : FVec Ideal S128x128 .bf16) (v : Vec Ideal S128x128 .bf16) :
    k0_pay18 I v = tileOf I v := rfl
/-- The store at column 384. -/
theorem piece3 (I : FVec Ideal S128x128 .bf16) (v : Vec Ideal S128x128 .bf16) :
    k0_pay17 I v = tileOf I v := rfl
/-- The store at column 256. -/
theorem piece2 (I : FVec Ideal S128x128 .bf16) (v : Vec Ideal S128x128 .bf16) :
    k0_pay16 I v = tileOf I v := rfl
/-- The store at column 128. -/
theorem piece1 (a : FVec Ideal S128x128 .f32) (b c : IVec S128x128 32) (d : FVec Ideal S128x128 .f32) (v : Vec Ideal S128x128 .bf16) :
    k0_pay15 (k0_pay14 a b c d v) (Scalar.ofBits .f32 0xC3E00000#32) (Scalar.ofBits .f32 0x43E00000#32) = tileOf (k0_pay12 a b c d) v := rfl
/-- The store at column 0. -/
theorem piece0 (a : FVec Ideal S128x128 .f32) (b c : IVec S128x128 32) (d : FVec Ideal S128x128 .f32) (v : Vec Ideal S128x128 .bf16) :
    k0_pay13 a b c d v = tileOf (k0_pay12 a b c d) v := rfl

/-- What the first two stores use as the reciprocal is what the others use. -/
theorem inv_fold (x0 : Vec Ideal S128x6144 .bf16) :
    k0_pay12 (k0_pay73 x0) (k0_pay74 x0) (k0_pay75 x0) (k0_pay76 x0) = k0_pay77 x0 := by
  unfold k0_pay77; rfl

/-- A tile of codes holds the codes of its part of x, when the reciprocals are those of the rows. -/
theorem tileOf_at (x0 : Vec Ideal S128x6144 .bf16) (I : FVec Ideal S128x128 .bf16)
    (hI : ∀ s l : Fin 128, I (ix2 s l) = rInv (amax (row (n := 128) x0 s))) (off : ℕ) (inb) (x : S128x128.Idx) :
    tileOf I (View.ld x0 (Rect.unit (s := S128x6144) ![0, off] S128x128.size inb)) x
      = xCodes (n := 128) x0 ((Rect.unit (s := S128x6144) ![0, off] S128x128.size inb).emb x) := by
  obtain ⟨s, l, rfl⟩ : ∃ (s l : Fin 128), x = ix2 s l := ⟨x 0, x 1, eq_ix2 x⟩
  have e : (Rect.unit (s := S128x6144) ![0, off] S128x128.size inb).emb (ix2 s l) 0 = s :=
    Fin.ext (show 0 + 1 * s.val = s.val by omega)
  unfold tileOf xCodes
  rw [hI, e]
  rfl

/-- The block of codes. -/
theorem codes_at (x0 : Vec Ideal S128x6144 .bf16) (y : S128x6144.Idx) : out0_1 x0 y = xCodes (n := 128) x0 y := by
  have hI := inv_at x0
  unfold out0_1
  simp only [piece47, piece46, piece45, piece44, piece43, piece42, piece41, piece40, piece39, piece38, piece37, piece36, piece35, piece34, piece33, piece32, piece31, piece30, piece29, piece28, piece27, piece26, piece25, piece24, piece23, piece22, piece21, piece20, piece19, piece18, piece17, piece16, piece15, piece14, piece13, piece12, piece11, piece10, piece9, piece8, piece7, piece6, piece5, piece4, piece3, piece2, piece1, piece0, inv_fold]
  revert hI
  generalize k0_pay77 x0 = I
  intro hI
  refine View.canon_apply_of_pieces (Val := Elt Ideal) (S := S128x6144) (e := .fp8e4m3) (xCodes (n := 128) x0) _ ?_ y (cover0_1 _ _ _ _ _ _ _ _ _ _ _ _ _ _ _ _ _ _ _ _ _ _ _ _ _ _ _ _ _ _ _ _ _ _ _ _ _ _ _ _ _ _ _ _ _ _ _ _ y)
  iterate 48 refine List.forall_mem_cons.mpr ⟨fun x => tileOf_at x0 I hI _ _ x, ?_⟩
  exact fun p hp => absurd hp List.not_mem_nil

/-- The block of scales. -/
theorem scales_at (x0 : Vec Ideal S128x6144 .bf16) (y : S128x128.Idx) : out0_2 x0 y = xScales (n := 128) x0 y := by
  have hz : (![0, 0] : Fin S128x128.rank → ℕ) = fun _ => 0 := funext fun a => by fin_cases a <;> rfl
  unfold out0_2
  rw [View.canon_unit_zero hz]
  obtain ⟨s, l, rfl⟩ : ∃ (s l : Fin 128), y = ix2 s l := ⟨y 0, y 1, eq_ix2 y⟩
  exact scale_at x0 s l

end Cert.XqIdeal.Gen

end
-- ==== Proof.XqVal.Value.lean ====
/- The kernel that quantises x, over the extended reals: its two result arrays after the run, and its run with them. -/
module

public import proofs.«01_k».proof.Proof.XqVal.Block

@[expose] public section

noncomputable section

namespace Cert.XqIdeal.Gen

open Idealize.ShloMosaic Idealize.ShloMosaic.TcCoe Idealize.SL.Sem
open Cert.Mx (amax row xCodes xScales)

variable (m : (ℓ : Loc nD τ sig) → Buf (Elt Ideal) ℓ) (ρ : Dev nD → PrngReg)

/-- The blocks of x, -/
theorem idx0 (t : Fin cfg0.N) : win0_0.index t = ![t.val, 0] := by revert t; decide +kernel
/-- of the codes -/
theorem idx1 (t : Fin cfg0.N) : win0_1.index t = ![t.val, 0] := by revert t; decide +kernel
/-- and of the scales are the `t`-th bands of 128 rows. -/
theorem idx2 (t : Fin cfg0.N) : win0_2.index t = ![t.val, 0] := by revert t; decide +kernel

/-- The row of the array that row `s` of the `t`-th band is. -/
def bandRow (t : Fin cfg0.N) (s : Fin 128) : Fin 1920 :=
  ⟨128 * t.val + s.val, by have := lt_of_lt_of_eq t.isLt (show cfg0.N = 15 from N_0); omega⟩

/-- An entry of the block of x is one of x. -/
theorem block_at (c : Dev nD) (t : Fin cfg0.N) (s : Fin 128) (k : Fin 6144) :
    (iblk m c 0 t : Vec Ideal S128x6144 .bf16) (ix2 s k) = m ((c : Thread nD τ).loc main_arg0) (ix2 (bandRow t s) k : S1920x6144.Idx) := by
  have e : (win0_0.blk t).view.emb (ix2 s k : S128x6144.Idx) = (ix2 (bandRow t s) k : S1920x6144.Idx) := by
    blk_ext [idx0, bandRow]
  blk_simp [iblk]
  exact congrArg (m ((c : Thread nD τ).loc main_arg0)) e

/-- The rows of the block of x are rows of x. -/
theorem block_row (c : Dev nD) (t : Fin cfg0.N) (s : Fin 128) :
    row (n := 128) (iblk m c 0 t) s = row (n := 1920) (m ((c : Thread nD τ).loc main_arg0)) (bandRow t s) :=
  funext fun k => block_at m c t s k

/-- The array of codes after the run. -/
theorem final_codes (c : Dev nD) : (dats m 0 c).arrAt 1 cfg0.N = xCodes (n := 1920) (m ((c : Thread nD τ).loc main_arg0)) := by
  refine (dats m 0 c).arrAt_eq_of_covers 1 _ (by decide +kernel) fun t hf y => ?_
  blk_simp
  rw [after0_1]
  obtain ⟨s, k, rfl⟩ : ∃ (s : Fin 128) (k : Fin 6144), y = ix2 s k := ⟨y 0, y 1, eq_ix2 y⟩
  have e : (win0_1.blk t).view.emb (ix2 s k : S128x6144.Idx) = (ix2 (bandRow t s) k : S1920x6144.Idx) := by
    blk_ext [idx1, bandRow]
  refine (codes_at _ (ix2 s k)).trans (Eq.trans ?_ (congrArg _ e).symm)
  unfold xCodes
  rw [block_at]
  refine congrArg (fun r => Cert.Mx.clip (_ * Cert.Mx.rInv (amax r))) (block_row m c t s)

/-- The array of scales after the run. -/
theorem final_scales (c : Dev nD) : (dats m 0 c).arrAt 2 cfg0.N = xScales (n := 1920) (m ((c : Thread nD τ).loc main_arg0)) := by
  refine (dats m 0 c).arrAt_eq_of_covers 2 _ (by decide +kernel) fun t hf y => ?_
  blk_simp
  rw [after0_2]
  obtain ⟨s, l, rfl⟩ : ∃ (s l : Fin 128), y = ix2 s l := ⟨y 0, y 1, eq_ix2 y⟩
  have e : (win0_2.blk t).view.emb (ix2 s l : S128x128.Idx) = (ix2 (bandRow t s) l : S1920x128.Idx) := by
    blk_ext [idx2, bandRow]
  refine (scales_at _ (ix2 s l)).trans (Eq.trans ?_ (congrArg _ e).symm)
  unfold xScales
  refine congrArg (fun r => Cert.Mx.rScale (amax r)) (block_row m c t s)

/-- The run with its two results; the argument ends unchanged. -/
theorem run_value : θ_run (defs (F := Ideal)) (onTc (τ := τ) (main (F := Ideal))) ⟨m, fun _ => 0, ρ⟩ (fun r => ∀ c : Dev nD,
    r.2.mem ((c.tc : Thread nD τ).loc main_v0_0) = xCodes (n := 1920) (m ((c : Thread nD τ).loc main_arg0))
    ∧ r.2.mem ((c.tc : Thread nD τ).loc main_v0_1) = xScales (n := 1920) (m ((c : Thread nD τ).loc main_arg0))
    ∧ r.2.mem ((c.tc : Thread nD τ).loc main_arg0) = m ((c.tc : Thread nD τ).loc main_arg0)) := by
  refine (θ_run defs _ _).mono (fun r h c => ?_) (run_main (F := Ideal) m ρ)
  exact ⟨(h.out_eq c 1).trans (final_codes m c), (h.out_eq c 2).trans (final_scales m c), (h.in_eq c 0 rfl).trans (A_eq m c 0)⟩

end Cert.XqIdeal.Gen

end
-- ==== Proof.XqVal.Reference.lean ====
/- The reference of the kernel that quantises x, over the extended reals: its two results, and its run with them. -/
module

public import proofs.«01_k».proof.Proof.Gen.XqReferenceIdeal.Frame
public import proofs.«01_k».proof.Proof.Mx.Quant
public import Idealize.ShloMosaic.PureOps.Ideal.Laws
public import Idealize.ShloMosaic.Lib.Pointwise.Tactic
public import Idealize.ShloMosaic.Lib.Pointwise.Reshape
public import Idealize.ShloMosaic.Lib.Pipeline.ValueKit

@[expose] public section

noncomputable section

namespace Cert.XqReferenceIdeal.Gen

open Idealize.ShloMosaic Idealize.ShloMosaic.TcCoe Idealize.SL.Sem
open Cert.Mx (largest mag rExp rPow rScale rInv clip amax row xCodes xScales)

/-! ## The payloads at an index -/

/-- The exponent of a row. -/
theorem pay2_at (X : Vec Ideal S1920x6144 .bf16) (s : Fin 1920) : k0_pay2 X (ix2 s 0) = rExp (amax (row (n := 1920) X s)) := by
  have ha : shapeCast S1920x1 (multiReduction .maximumf [1] S1920 (absf (k0_pay1 X)) 0xFF800000#32 reduces_S1920x6144_S1920 (.inl rfl) rfl)
      shapeCasts_S1920_S1920x1 (ix2 s 0) = amax (row (n := 1920) X s) := by
    unfold k0_pay1
    pointwise
    rfl
  rw [← ha]
  rfl

/-- A code. -/
theorem pay3_at (X : Vec Ideal S1920x6144 .bf16) (s : Fin 1920) (k : Fin 6144) :
    k0_pay3 X (ix2 s k) = xCodes (n := 1920) X (ix2 s k) := by
  unfold k0_pay3 k0_pay1
  pointwise
  have z : (0 : EReal) = Ideal.ofBits .f32 0x00000000#32 := Cert.Mx.cZero.symm
  rw [pay2_at, z]
  rfl

/-- A scale. -/
theorem pay4_at (X : Vec Ideal S1920x6144 .bf16) (s : Fin 1920) (l : Fin 128) :
    k0_pay4 X (ix2 s l) = xScales (n := 1920) X (ix2 s l) := by
  unfold k0_pay4
  pointwise
  rw [pay2_at]
  rfl

/-! ## The arrays after the run -/

variable (m : (ℓ : Loc nD τ sig) → Buf (Elt Ideal) ℓ) (ρ : Dev nD → PrngReg)

/-- The block of x is the whole array. -/
theorem idx : ∀ t : Fin cfg0.N, win0_0.index t = ![0, 0] :=
  (by decide +kernel : ∀ t : Fin grid0.N, _)

/-- The block of x is the array. -/
theorem iblk0 (c : Dev nD) : iblk m c 0 t0_0 = m ((c : Thread nD τ).loc main_arg0) := by
  blk_ext! [iblk, V, idx t0_0]

/-- The array of codes after the run. -/
theorem final_codes (c : Dev nD) : (dats m 0 c).arrAt 1 cfg0.N = xCodes (n := 1920) (m ((c : Thread nD τ).loc main_arg0)) := by
  refine (dats m 0 c).arrAt_eq_of_after_last 1 t0_0 (by decide +kernel) _ fun j => ?_
  blk_simp
  rw [after0_1]
  unfold out0_1
  frame_out
  rw [iblk0]
  obtain ⟨o, k, rfl⟩ : ∃ (o : Fin 1920) (k : Fin 6144), j = ix2 o k := ⟨j 0, j 1, eq_ix2 j⟩
  exact pay3_at _ o k

/-- The array of scales after the run. -/
theorem final_scales (c : Dev nD) : (dats m 0 c).arrAt 2 cfg0.N = xScales (n := 1920) (m ((c : Thread nD τ).loc main_arg0)) := by
  refine (dats m 0 c).arrAt_eq_of_after_last 2 t0_0 (by decide +kernel) _ fun j => ?_
  blk_simp
  rw [after0_2]
  unfold out0_2
  frame_out
  rw [iblk0]
  obtain ⟨o, b, rfl⟩ : ∃ (o : Fin 1920) (b : Fin 128), j = ix2 o b := ⟨j 0, j 1, eq_ix2 j⟩
  exact pay4_at _ o b

/-- The run with its two results; the argument ends unchanged. -/
theorem run_value : θ_run (defs (F := Ideal)) (onTc (τ := τ) (main (F := Ideal))) ⟨m, fun _ => 0, ρ⟩ (fun r => ∀ c : Dev nD,
    r.2.mem ((c.tc : Thread nD τ).loc main_v0_0) = xCodes (n := 1920) (m ((c : Thread nD τ).loc main_arg0))
    ∧ r.2.mem ((c.tc : Thread nD τ).loc main_v0_1) = xScales (n := 1920) (m ((c : Thread nD τ).loc main_arg0))
    ∧ r.2.mem ((c.tc : Thread nD τ).loc main_arg0) = m ((c.tc : Thread nD τ).loc main_arg0)) := by
  refine (θ_run defs _ _).mono (fun r h c => ?_) (run_main (F := Ideal) m ρ)
  exact ⟨(h.out_eq c 1).trans (final_codes m c), (h.out_eq c 2).trans (final_scales m c), (h.in_eq c 0 rfl).trans (A_eq m c 0)⟩

end Cert.XqReferenceIdeal.Gen

end
-- ==== Proof.lean ====
/- The ten claims: of each of the kernel's two calls, that the program, its reading over the extended reals and the
   reference run, end, leave their arguments and stop with all counters at zero; that the reading is the program's; and
   that over the extended reals the call and its reference have the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KFrame.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Mm.Value
public import proofs.«01_k».proof.Proof.Ref.Value
public import proofs.«01_k».proof.Proof.XqVal.Value
public import proofs.«01_k».proof.Proof.XqVal.Reference
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Xq
public import proofs.«01_k».proof.Proof.Gen.Xq.Skeleton
public import proofs.«01_k».proof.Proof.Gen.Xq.Launch
public import proofs.«01_k».proof.Proof.Gen.Xq.Points
public import proofs.«01_k».proof.Proof.Gen.Xq.Frame
public import proofs.«01_k».proof.Proof.Gen.XqIdeal
public import proofs.«01_k».proof.Proof.Gen.XqIdeal.Skeleton
public import proofs.«01_k».proof.Proof.Gen.XqIdeal.Launch
public import proofs.«01_k».proof.Proof.Gen.XqIdeal.Points
public import proofs.«01_k».proof.Proof.Gen.XqIdeal.Frame
public import proofs.«01_k».proof.Proof.Gen.XqReferenceIdeal
public import proofs.«01_k».proof.Proof.Gen.XqReferenceIdeal.Skeleton
public import proofs.«01_k».proof.Proof.Gen.XqReferenceIdeal.Launch
public import proofs.«01_k».proof.Proof.Gen.XqReferenceIdeal.Points
public import proofs.«01_k».proof.Proof.Gen.XqReferenceIdeal.Frame
public import Idealize.ShloMosaic.Adequacy
public import Idealize.ShloMosaic.Lib.Bf16Pair
public import Idealize.ShloMosaic.Init

@[expose] public section

noncomputable section

namespace Cert.Proof

open Idealize.ShloMosaic Idealize.SL.Sem Cert.Kernel

/-- The matrix product and its reference have the same three results. -/
theorem algebraic_mm [Cert.KernelIdeal.Facts] [Cert.ReferenceIdeal.Facts] : Cert.algebraic_KernelIdeal_ReferenceIdeal := by
  intro m g m' g' _ hargs
  refine ⟨fun c => Cert.Mx.product (r := 1920) (n := 10752)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Mx.wCodes (n := 10752) (m ((c.tc : Thread Cert.KernelIdeal.nD Cert.KernelIdeal.τ).loc Cert.KernelIdeal.main_arg2)),
    fun c => Cert.Mx.wStored (n := 10752) (m ((c.tc : Thread Cert.KernelIdeal.nD Cert.KernelIdeal.τ).loc Cert.KernelIdeal.main_arg2)),
    Cert.KernelIdeal.Gen.run_value m g, ?_⟩
  refine (θ_run (Cert.ReferenceIdeal.defs (F := Ideal)) _ _).mono (fun r h c => ?_) (Cert.ReferenceIdeal.Gen.run_value m' g')
  obtain ⟨h0, h1, h2, ha, hb, hc⟩ := h c
  obtain ⟨e0, e1, e2⟩ := hargs c
  refine ⟨h0.trans ?_, h1.trans ?_, h2.trans ?_, ha, hb, hc⟩
  · rw [e0, e1, e2]
  · rw [e2]
  · rw [e2]

/-- The quantisation of x and its reference have the same two results. -/
theorem algebraic_xq [Cert.XqIdeal.Facts] [Cert.XqReferenceIdeal.Facts] : Cert.algebraic_XqIdeal_XqReferenceIdeal := by
  intro m g m' g' _ hargs
  refine ⟨fun c => Cert.Mx.xCodes (n := 1920) (m ((c.tc : Thread Cert.XqIdeal.nD Cert.XqIdeal.τ).loc Cert.XqIdeal.main_arg0)),
    fun c => Cert.Mx.xScales (n := 1920) (m ((c.tc : Thread Cert.XqIdeal.nD Cert.XqIdeal.τ).loc Cert.XqIdeal.main_arg0)),
    Cert.XqIdeal.Gen.run_value m g, ?_⟩
  refine (θ_run (Cert.XqReferenceIdeal.defs (F := Ideal)) _ _).mono (fun r h c => ?_) (Cert.XqReferenceIdeal.Gen.run_value m' g')
  obtain ⟨h0, h1, ha⟩ := h c
  have e0 := hargs c
  refine ⟨h0.trans ?_, h1.trans ?_, ha⟩
  · rw [e0]
  · rw [e0]

/-- All the claims. -/
theorem claim : Cert.Claim := ⟨Cert.Kernel.Gen.facts, Cert.KernelIdeal.Gen.facts, Cert.ReferenceIdeal.Gen.facts, Cert.Xq.Gen.facts,
  Cert.XqIdeal.Gen.facts, Cert.XqReferenceIdeal.Gen.facts,
  fun m g _ => Cert.Kernel.Gen.frame m g, fun m g _ => Cert.KernelIdeal.Gen.frame m g,
  fun m g _ => Cert.ReferenceIdeal.Gen.frame m g, fun m g _ => Cert.Xq.Gen.frame m g, fun m g _ => Cert.XqIdeal.Gen.frame m g,
  fun m g _ => Cert.XqReferenceIdeal.Gen.frame m g,
  IdealRules.bf16_pair.statement Cert.KernelIdeal.S128x256 Cert.KernelIdeal.S64x256, algebraic_mm, trivial, algebraic_xq⟩

end Cert.Proof

end
